-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S3x1024x1024 : Shape := ⟨3, ![3, 1024, 1024]⟩
abbrev S24 : Shape := ⟨1, ![24]⟩
abbrev S1024x1024 : Shape := ⟨2, ![1024, 1024]⟩
abbrev S_ : Shape := ⟨0, ![]⟩
abbrev S3x1024x2048 : Shape := ⟨3, ![3, 1024, 2048]⟩
abbrev S3 : Shape := ⟨1, ![3]⟩
abbrev S4x8x128 : Shape := ⟨3, ![4, 8, 128]⟩
abbrev S1 : Shape := ⟨1, ![1]⟩
abbrev S1x128x1024 : Shape := ⟨3, ![1, 128, 1024]⟩
abbrev S128x1024 : Shape := ⟨2, ![128, 1024]⟩
abbrev S1x1024x2048 : Shape := ⟨3, ![1, 1024, 2048]⟩
abbrev S128x2048 : Shape := ⟨2, ![128, 2048]⟩
abbrev S1x128x2048 : Shape := ⟨3, ![1, 128, 2048]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S3x1024x1024, .f32⟩
  | .local _ .vmem, ⟨2, _⟩ => ⟨S1024x1024, .f32⟩
  | .local _ .vmem, ⟨3, _⟩ => ⟨S3x1024x2048, .f32⟩
  | .local _ .vmem, ⟨4, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch3 : Ref sig .tc := ⟨.vmem, 2, rfl⟩
abbrev cc0_scratch5 : Ref sig .tc := ⟨.vmem, 3, rfl⟩
abbrev cc0_scratch7 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let v19 : BitVec 32 := Scalar.addi v18 c0_i32_15
  let c0_i32_23 : BitVec 32 := 0#32
  ![v19.toNat, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_19 : BitVec 32 := 1#32
  let v20 : BitVec 32 := Scalar.muli v17 c1_i32_19
  let v21 : BitVec 32 := Scalar.addi c0_i32_20 v20
  v21.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_28 : BitVec 32 := 1#32
  let v31 : BitVec 32 := Scalar.muli v17 c1_i32_28
  let v32 : BitVec 32 := Scalar.addi c0_i32_29 v31
  v32.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_37 : BitVec 32 := 1#32
  let v42 : BitVec 32 := Scalar.muli v17 c1_i32_37
  let v43 : BitVec 32 := Scalar.addi c0_i32_38 v42
  v43.toNat
def k0_dev7 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_46 : BitVec 32 := 1#32
  let v53 : BitVec 32 := Scalar.muli v17 c1_i32_46
  let v54 : BitVec 32 := Scalar.addi c0_i32_47 v53
  v54.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_55 : BitVec 32 := 1#32
  let v64 : BitVec 32 := Scalar.muli v17 c1_i32_55
  let v65 : BitVec 32 := Scalar.addi c0_i32_56 v64
  v65.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_63 : BitVec 32 := 1#32
  let v75 : BitVec 32 := Scalar.muli v17 c1_i32_63
  let v76 : BitVec 32 := Scalar.addi c0_i32_64 v75
  v76.toNat
def k0_dev10 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_71 : BitVec 32 := 1#32
  let v86 : BitVec 32 := Scalar.muli v17 c1_i32_71
  let v87 : BitVec 32 := Scalar.addi c0_i32_72 v86
  v87.toNat
def k0_dev11 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_79 : BitVec 32 := 1#32
  let v97 : BitVec 32 := Scalar.muli v17 c1_i32_79
  let v98 : BitVec 32 := Scalar.addi c0_i32_80 v97
  v98.toNat
def k0_dev12 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_90 : BitVec 32 := 1#32
  let v110 : BitVec 32 := Scalar.muli v107 c1_i32_90
  let v111 : BitVec 32 := Scalar.addi c0_i32_91 v110
  v111.toNat
def k0_dev13 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_99 : BitVec 32 := 1#32
  let v121 : BitVec 32 := Scalar.muli v107 c1_i32_99
  let v122 : BitVec 32 := Scalar.addi c0_i32_100 v121
  v122.toNat
def k0_dev14 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_108 : BitVec 32 := 1#32
  let v132 : BitVec 32 := Scalar.muli v107 c1_i32_108
  let v133 : BitVec 32 := Scalar.addi c0_i32_109 v132
  v133.toNat
def k0_dev15 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_117 : BitVec 32 := 1#32
  let v143 : BitVec 32 := Scalar.muli v107 c1_i32_117
  let v144 : BitVec 32 := Scalar.addi c0_i32_118 v143
  v144.toNat
def k0_dev16 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_126 : BitVec 32 := 1#32
  let v154 : BitVec 32 := Scalar.muli v107 c1_i32_126
  let v155 : BitVec 32 := Scalar.addi c0_i32_127 v154
  v155.toNat
def k0_dev17 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_135 : BitVec 32 := 1#32
  let v165 : BitVec 32 := Scalar.muli v107 c1_i32_135
  let v166 : BitVec 32 := Scalar.addi c0_i32_136 v165
  v166.toNat
def k0_dev18 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_144 : BitVec 32 := 1#32
  let v176 : BitVec 32 := Scalar.muli v107 c1_i32_144
  let v177 : BitVec 32 := Scalar.addi c0_i32_145 v176
  v177.toNat
def k0_dev19 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let v107 : BitVec 32 := Scalar.remsi v106 c4_i32_85
  let c1_i32_153 : BitVec 32 := 1#32
  let v187 : BitVec 32 := Scalar.muli v107 c1_i32_153
  let v188 : BitVec 32 := Scalar.addi c0_i32_154 v187
  v188.toNat
def k0_dev20 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_164 : BitVec 32 := 1#32
  let v200 : BitVec 32 := Scalar.muli v197 c1_i32_164
  let v201 : BitVec 32 := Scalar.addi c0_i32_165 v200
  v201.toNat
def k0_dev21 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_173 : BitVec 32 := 1#32
  let v211 : BitVec 32 := Scalar.muli v197 c1_i32_173
  let v212 : BitVec 32 := Scalar.addi c0_i32_174 v211
  v212.toNat
def k0_dev22 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_182 : BitVec 32 := 1#32
  let v222 : BitVec 32 := Scalar.muli v197 c1_i32_182
  let v223 : BitVec 32 := Scalar.addi c0_i32_183 v222
  v223.toNat
def k0_dev23 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_191 : BitVec 32 := 1#32
  let v233 : BitVec 32 := Scalar.muli v197 c1_i32_191
  let v234 : BitVec 32 := Scalar.addi c0_i32_192 v233
  v234.toNat
def k0_dev24 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_200 : BitVec 32 := 1#32
  let v244 : BitVec 32 := Scalar.muli v197 c1_i32_200
  let v245 : BitVec 32 := Scalar.addi c0_i32_201 v244
  v245.toNat
def k0_dev25 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_209 : BitVec 32 := 1#32
  let v255 : BitVec 32 := Scalar.muli v197 c1_i32_209
  let v256 : BitVec 32 := Scalar.addi c0_i32_210 v255
  v256.toNat
def k0_dev26 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_218 : BitVec 32 := 1#32
  let v266 : BitVec 32 := Scalar.muli v197 c1_i32_218
  let v267 : BitVec 32 := Scalar.addi c0_i32_219 v266
  v267.toNat
def k0_dev27 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_158 : BitVec 32 := 2#32
  let v196 : BitVec 32 := Scalar.addi v2 c2_i32_158
  let c4_i32_159 : BitVec 32 := 4#32
  let v197 : BitVec 32 := Scalar.remsi v196 c4_i32_159
  let c1_i32_227 : BitVec 32 := 1#32
  let v277 : BitVec 32 := Scalar.muli v197 c1_i32_227
  let v278 : BitVec 32 := Scalar.addi c0_i32_228 v277
  v278.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_232 : BitVec 32 := 1024#32
  let v286 : BitVec 32 := Scalar.muli v2 c1024_i32_232
  let c0_i32_233 : BitVec 32 := 0#32
  ![v286.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_239 : BitVec 32 := 1024#32
  let v293 : BitVec 32 := Scalar.muli v2 c1024_i32_239
  let c0_i32_244 : BitVec 32 := 0#32
  ![v293.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_234 : BitVec 32 := 4#32
  let v288 : BitVec 32 := Scalar.addi v2 c4_i32_234
  let c1_i32_235 : BitVec 32 := 1#32
  let v289 : BitVec 32 := Scalar.subi v288 c1_i32_235
  let c4_i32_236 : BitVec 32 := 4#32
  let v290 : BitVec 32 := Scalar.remsi v289 c4_i32_236
  let c1024_i32_245 : BitVec 32 := 1024#32
  let v299 : BitVec 32 := Scalar.muli v290 c1024_i32_245
  let c0_i32_250 : BitVec 32 := 0#32
  ![v299.toNat, 0]
def k0_off5 (d0 : Dev nD) (c1_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_237
  let c4_i32_238 : BitVec 32 := 4#32
  let v292 : BitVec 32 := Scalar.remsi v291 c4_i32_238
  let c1024_i32_251 : BitVec 32 := 1024#32
  let v305 : BitVec 32 := Scalar.muli v292 c1024_i32_251
  let c0_i32_256 : BitVec 32 := 0#32
  ![v305.toNat, 0]
def k0_dev28 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_766 : BitVec 32 := 1#32
  let v796 : BitVec 32 := Scalar.addi v2 c1_i32_766
  let c4_i32_767 : BitVec 32 := 4#32
  let v797 : BitVec 32 := Scalar.remsi v796 c4_i32_767
  let c1_i32_772 : BitVec 32 := 1#32
  let v798 : BitVec 32 := Scalar.muli v797 c1_i32_772
  let v799 : BitVec 32 := Scalar.addi c0_i32_773 v798
  v799.toNat
def k0_dev29 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_778 : BitVec 32 := 2#32
  let v808 : BitVec 32 := Scalar.addi v2 c2_i32_778
  let c4_i32_779 : BitVec 32 := 4#32
  let v809 : BitVec 32 := Scalar.remsi v808 c4_i32_779
  let c1_i32_784 : BitVec 32 := 1#32
  let v810 : BitVec 32 := Scalar.muli v809 c1_i32_784
  let v811 : BitVec 32 := Scalar.addi c0_i32_785 v810
  v811.toNat
def k0_dev30 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_790 : BitVec 32 := 3#32
  let v820 : BitVec 32 := Scalar.addi v2 c3_i32_790
  let c4_i32_791 : BitVec 32 := 4#32
  let v821 : BitVec 32 := Scalar.remsi v820 c4_i32_791
  let c1_i32_796 : BitVec 32 := 1#32
  let v822 : BitVec 32 := Scalar.muli v821 c1_i32_796
  let v823 : BitVec 32 := Scalar.addi c0_i32_797 v822
  v823.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
/- The kernel's body written with loops. Every copy, wait, load and store of the printed body appears here once,
   under a loop over its chunk or flow, and `body_eq` says that the printed body is this program.

   Naming: device `c` sends along three FLOWS `f = 0, 1, 2`, flow `f` reaching the device at distance `1, 3, 2` after
   `c`. Each flow carries one block of 1024 rows in eight CHUNKS `k` of 128 rows. Copy number `i = 8 f + k`. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Mm

open Idealize.ShloMosaic Idealize.SL.Sem Cert.KernelIdeal Cert.KernelIdeal.Gen

variable {F : FTy → Type} [FloatOps F]

/-- The programs of the kernel's processor. -/
abbrev KProg (F : FTy → Type) [FloatOps F] : Type 1 := Prog (TpuEff nD τ sig (Elt F) Λ₀ .tc) PUnit

/-- The device that flow `f` of device `c` reaches, as the kernel computes it. -/
def flowDev (c : Dev nD) : ℕ → Dev nD
  | 0 => ⟨k0_dev4 c, k0_dev4_lt c⟩
  | 1 => ⟨k0_dev12 c, k0_dev12_lt c⟩
  | _ => ⟨k0_dev20 c, k0_dev20_lt c⟩

/-- The distance word of flow `f`, less one: distances 1, 3, 2. -/
def flowR : ℕ → Fin 3
  | 0 => 0
  | 1 => 2
  | _ => 1

/-- The chunk of `x` that copy `i` reads. -/
def xV (c : Dev nD) (i : Fin 24) : Memref sig .tc .hbm S128x1024 .f32 :=
  (Memref.whole main_arg0).slice (Rect.unit (s := S4096x1024)
    (k0_off1 c (BitVec.ofNat 32 (1 + (flowR (i.val / 8)).val)) (BitVec.ofNat 32 (128 * (i.val % 8)))) S128x1024.size
    (k0_off1_inb c (flowR (i.val / 8)) ⟨i.val % 8, Nat.mod_lt _ (by decide)⟩)) (fun _ => rfl)

theorem commV_inb (i : Fin 24) : ∀ a, (![i.val / 8, 128 * (i.val % 8), 0] : Fin 3 → Nat) a + S1x128x1024.size a ≤ S3x1024x1024.size a := by
  revert i; decide

/-- The rectangle of the receive buffer that copy `i` fills. -/
abbrev commR (i : Fin 24) : Rect S3x1024x1024 :=
  Rect.unit (s := S3x1024x1024) ![i.val / 8, 128 * (i.val % 8), 0] S1x128x1024.size (commV_inb i)

/-- The chunk of the receive buffer that copy `i` fills. -/
def commV (i : Fin 24) : Memref sig .tc .vmem S128x1024 .f32 :=
  ((Memref.whole cc0_scratch0).slice (commR i) (fun _ => rfl)).squeeze S128x1024 squeezes_S1x128x1024_S128x1024

theorem sem24_inb (i : Fin 24) : ∀ a, (![i.val] : Fin 1 → Nat) a + S1.size a ≤ S24.size a := by
  revert i; decide

theorem sem3_inb (j : Fin 3) : ∀ a, (![j.val] : Fin 1 → Nat) a + S1.size a ≤ S3.size a := by
  revert j; decide

/-- Number `i` of an array of 24 semaphores. -/
def semAt24 (A : DmaSems sig S24) (i : Fin 24) : DmaSem sig :=
  ((A.slice (Rect.unit (s := S24) ![i.val] S1.size (sem24_inb i))).squeeze S_ squeezes_S1_S_).sem

/-- Number `j` of an array of 3 semaphores. -/
def semAt3 (A : DmaSems sig S3) (j : Fin 3) : DmaSem sig :=
  ((A.slice (Rect.unit (s := S3) ![j.val] S1.size (sem3_inb j))).squeeze S_ squeezes_S1_S_).sem

/-- The own block of `x`. -/
def xOwnV (c : Dev nD) : Memref sig .tc .hbm S1024x1024 .f32 :=
  (Memref.whole main_arg0).slice (Rect.unit (s := S4096x1024) (k0_off2 c) S1024x1024.size (k0_off2_inb c)) (fun _ => rfl)

/-- The offset of the row block of `w` that load `j` reads: the own block, then those the flows 0, 1 and 2 meet. -/
def wOff (c : Dev nD) : Fin 4 → Fin 2 → ℕ
  | 0 => k0_off3 c
  | 1 => k0_off4 c
  | 2 => k0_off5 c 1#32
  | 3 => k0_off5 c 2#32

theorem wOff_inb (c : Dev nD) (j : Fin 4) : ∀ a, wOff c j a + S1024x2048.size a ≤ S4096x2048.size a := by
  match j with
  | 0 => exact k0_off3_inb c
  | 1 => exact k0_off4_inb c
  | 2 => exact k0_off5_inb c 0
  | 3 => exact k0_off5_inb c 1

/-- The row block of `w` that load `j` reads. -/
def wV (c : Dev nD) (j : Fin 4) : Memref sig .tc .hbm S1024x2048 .f32 :=
  (Memref.whole main_arg1).slice (Rect.unit (s := S4096x2048) (wOff c j) S1024x2048.size (wOff_inb c j)) (fun _ => rfl)

theorem slot_inb (s : Fin 3) : ∀ a, (![s.val, 0, 0] : Fin 3 → Nat) a + S1x1024x2048.size a ≤ S3x1024x2048.size a := by
  revert s; decide

/-- The rectangle of slot `s` of the buffer of `w` blocks. -/
abbrev slotR (s : Fin 3) : Rect S3x1024x2048 := Rect.unit (s := S3x1024x2048) ![s.val, 0, 0] S1x1024x2048.size (slot_inb s)

/-- Slot `s` of the buffer of `w` blocks. -/
def slotV (s : Fin 3) : Memref sig .tc .vmem S1024x2048 .f32 :=
  ((Memref.whole cc0_scratch5).slice (slotR s) (fun _ => rfl)).squeeze S1024x2048 squeezes_S1x1024x2048_S1024x2048

theorem amax_inb (d : Fin 4) : ∀ a, (![d.val, 0, 0] : Fin 3 → Nat) a + S1x8x128.size a ≤ S4x8x128.size a := by
  revert d; decide

/-- The rectangle of slot `d` of the buffer of maxima. -/
abbrev amaxR (d : Fin 4) : Rect S4x8x128 := Rect.unit (s := S4x8x128) ![d.val, 0, 0] S1x8x128.size (amax_inb d)

/-- Slot `d` of the buffer of maxima. -/
def amaxV (d : Fin 4) : Memref sig .tc .vmem S8x128 .f32 :=
  ((Memref.whole cc0_scratch7).slice (amaxR d) (fun _ => rfl)).squeeze S8x128 squeezes_S1x8x128_S8x128

/-- The device the `j`-th copy of the maximum reaches, as the kernel computes it. -/
def amaxDev (c : Dev nD) : Fin 3 → Dev nD
  | 0 => ⟨k0_dev28 c, k0_dev28_lt c⟩
  | 1 => ⟨k0_dev29 c, k0_dev29_lt c⟩
  | 2 => ⟨k0_dev30 c, k0_dev30_lt c⟩

theorem rows_inb (k : Fin 8) : ∀ a, (![128 * k.val, 0] : Fin 2 → Nat) a + S128x2048.size a ≤ S1024x2048.size a := by
  revert k; decide

/-- The rectangle of the rows of chunk `k` of the result. -/
abbrev rowsR (k : Fin 8) : Rect S1024x2048 := Rect.unit (s := S1024x2048) ![128 * k.val, 0] S128x2048.size (rows_inb k)

/-- The slot of `w` that flow `f` multiplies by. -/
def flowSlot : Fin 3 → Fin 3
  | 0 => 1
  | 1 => 2
  | 2 => 0

/-- Copy number `8 f + k`. -/
def copyNo (f : Fin 3) (k : Fin 8) : Fin 24 := ⟨8 * f.val + k.val, by omega⟩

/-- The sends of `x`, the last `n` of them. -/
def sends (c : Dev nD) (K : KProg F) : (n : ℕ) → n ≤ 24 → KProg F
  | 0, _ => K
  | n + 1, h => .op (.enqueueDma (xV c ⟨24 - (n + 1), by omega⟩)
      (.remote (Dev.tc (flowDev c ((24 - (n + 1)) / 8))) (commV ⟨24 - (n + 1), by omega⟩) (.dma (semAt24 cc0_scratch1 ⟨24 - (n + 1), by omega⟩)))
      (.dma (semAt24 cc0_scratch2 ⟨24 - (n + 1), by omega⟩)) (View.wordExact_bits rfl) ((View.wordExact_bits rfl).reshape _ _)
      ⟨⟨rfl, Or.inl rfl⟩, trivial⟩) fun _ => sends c K n (by omega)

/-- The load of row block `j` of `w` into slot `s`, started. -/
def wCopy (c : Dev nD) (j : Fin 4) (s : Fin 3) (K : KProg F) : KProg F :=
  .op (.enqueueDma (wV c j) (.here (slotV s)) (.dma (semAt3 cc0_scratch6 s)) (View.wordExact_bits rfl)
    ((View.wordExact_bits rfl).reshape _ _) ⟨Or.inl rfl, trivial⟩) fun _ => K

/-- The wait for it. -/
def wWait (c : Dev nD) (j : Fin 4) (s : Fin 3) (K : KProg F) : KProg F :=
  .op (.waitDma2 (semAt3 cc0_scratch6 s) (wV c j) (slotV s) (View.wordExact_bits rfl)
    ((View.wordExact_bits rfl).reshape _ _)) fun _ => K

/-- The load of the rows of chunk `k` of the result. -/
def loadRows (o : Memref sig .tc .vmem S1024x2048 .f32) (k : Fin 8) (K : Vec F S128x2048 .f32 → KProg F) : KProg F :=
  .op (.load o (rowsR k).toLoadRect (View.loadsAt_vmem h_S128x2048)) K

/-- The store of the rows of chunk `k` of the result. -/
def storeRows (o : Memref sig .tc .vmem S1024x2048 .f32) (k : Fin 8) (v : Vec F S128x2048 .f32) (K : KProg F) : KProg F :=
  .op (.store o (rowsR k) v Finset.univ (View.stores_vmem_bits_univ h_S128x2048 rfl) (.inl rfl)) fun _ => K

/-- One chunk of one flow: wait for it, and add its product to the rows of the result. -/
def addChunk (c : Dev nD) (o : Memref sig .tc .vmem S1024x2048 .f32) (f : Fin 3) (k : Fin 8) (K : KProg F) : KProg F :=
  .op (.waitDma2 (semAt24 cc0_scratch2 (copyNo f k)) (xV c (copyNo f k)) (commV (copyNo f k)) (View.wordExact_bits rfl)
    ((View.wordExact_bits rfl).reshape _ _)) fun _ =>
  loadRows o k fun v₁ =>
  .op (.load (Memref.whole cc0_scratch0) (commR (copyNo f k)).toLoadRect (View.loadsAt_vmem h_S1x128x1024)) fun v₂ =>
  .op (.load (Memref.whole cc0_scratch5) (slotR (flowSlot f)).toLoadRect (View.loadsAt_vmem h_S1x1024x2048)) fun v₃ =>
  loadRows o k fun _ => storeRows o k (k0_pay2 v₁ v₂ v₃) K

/-- The three flows of chunk `k`, then the rows read back. -/
def chunk (c : Dev nD) (o : Memref sig .tc .vmem S1024x2048 .f32) (k : Fin 8) (K : Vec F S128x2048 .f32 → KProg F) : KProg F :=
  addChunk c o 0 k <| addChunk c o 1 k <| addChunk c o 2 k <| loadRows o k K

/-- The last `n` chunks, the running maximum carried along. -/
def chunks (c : Dev nD) (o : Memref sig .tc .vmem S1024x2048 .f32) (K : F .f32 → KProg F) : (n : ℕ) → n ≤ 7 → F .f32 → KProg F
  | 0, _, a => K a
  | n + 1, h, a => chunk c o ⟨8 - (n + 1), by omega⟩ fun v => chunks c o K n (by omega) (Scalar.maximumf a (k0_pay8 v))

/-- The tile of the buffer of maxima a device's own maximum fills. -/
def amaxTile (a : F .f32) : FVec F S1x8x128 .f32 := shapeCast S1x8x128 (broadcast S8x128 a) shapeCasts_S8x128_S1x8x128

/-- The send of the maximum to the `j`-th other device. -/
def amaxSend (c : Dev nD) (j : Fin 3) (K : KProg F) : KProg F :=
  .op (.enqueueDma (amaxV 0) (.remote (Dev.tc (amaxDev c j)) (amaxV j.succ) (.dma (semAt3 cc0_scratch8 j)))
    (.dma (semAt3 cc0_scratch9 j)) ((View.wordExact_bits rfl).reshape _ _) ((View.wordExact_bits rfl).reshape _ _)
    ⟨⟨rfl, Or.inl rfl⟩, trivial⟩) fun _ => K

/-- The wait for the maximum of the `j`-th other device. -/
def amaxWait (j : Fin 3) (K : KProg F) : KProg F :=
  .op (.waitDma2 (semAt3 cc0_scratch9 j) (amaxV 0) (amaxV j.succ) ((View.wordExact_bits rfl).reshape _ _)
    ((View.wordExact_bits rfl).reshape _ _)) fun _ => K

/-- The last `n` chunks of the result quantised by the maxima `g`. -/
def quants (o : Memref sig .tc .vmem S1024x2048 .f32) (g : Vec F S4x8x128 .f32) (K : KProg F) : (n : ℕ) → n ≤ 8 → KProg F
  | 0, _ => K
  | n + 1, h => loadRows o ⟨8 - (n + 1), by omega⟩ fun v => loadRows o ⟨8 - (n + 1), by omega⟩ fun _ =>
      storeRows o ⟨8 - (n + 1), by omega⟩ (k0_pay54 g v) (quants o g K n (by omega))

/-- The waits for the sends of `x`, the last `n` of them. -/
def sendWaits (c : Dev nD) (K : KProg F) : (n : ℕ) → n ≤ 24 → KProg F
  | 0, _ => K
  | n + 1, h => .op (.waitDma2 (semAt24 cc0_scratch1 ⟨24 - (n + 1), by omega⟩) (commV ⟨24 - (n + 1), by omega⟩)
      (xV c ⟨24 - (n + 1), by omega⟩) ((View.wordExact_bits rfl).reshape _ _) (View.wordExact_bits rfl)) fun _ => sendWaits c K n (by omega)

/-- The wait for the `j`-th send of the maximum. -/
def amaxSendWait (j : Fin 3) (K : KProg F) : KProg F :=
  .op (.waitDma2 (semAt3 cc0_scratch8 j) (amaxV j.succ) (amaxV 0) ((View.wordExact_bits rfl).reshape _ _)
    ((View.wordExact_bits rfl).reshape _ _)) fun _ => K

/-- What follows once the maxima are in: the result quantised, and the waits for the sends. -/
def tail (c : Dev nD) (o : Memref sig .tc .vmem S1024x2048 .f32) : KProg F :=
  .op (.load (Memref.whole cc0_scratch7) (Rect.unit (s := S4x8x128) ![0, 0, 0] S4x8x128.size inb_S4x8x128_S4x8x128_0_0_0).toLoadRect
    (View.loadsAt_vmem h_S4x8x128)) fun g =>
  quants o g (sendWaits c (amaxSendWait 0 <| amaxSendWait 1 <| amaxSendWait 2 <| .ret ⟨⟩) 24 le_rfl) 8 le_rfl

/-- The exchange of the maxima, device `c`'s own being `a`. -/
def exchange (c : Dev nD) (o : Memref sig .tc .vmem S1024x2048 .f32) (a : F .f32) : KProg F :=
  .op (.load (Memref.whole cc0_scratch7) (amaxR 0).toLoadRect (View.loadsAt_vmem h_S1x8x128)) fun _ =>
  .op (.store (Memref.whole cc0_scratch7) (amaxR 0) (amaxTile a) Finset.univ (View.stores_vmem_bits_univ h_S1x8x128 rfl) (.inl rfl)) fun _ =>
  amaxSend c 0 <| amaxSend c 1 <| amaxSend c 2 <| amaxWait 0 <| amaxWait 1 <| amaxWait 2 <| tail c o

/-- The products: the own block's, then the eight chunks of the three flows. -/
def products (c : Dev nD) (o : Memref sig .tc .vmem S1024x2048 .f32) : KProg F :=
  chunk c o 0 fun v => chunks c o (exchange c o) 7 le_rfl (k0_pay8 v)

/-- The loads of the own blocks, and the first product. -/
def own (c : Dev nD) (o : Memref sig .tc .vmem S1024x2048 .f32) : KProg F :=
  .op (.enqueueDma (xOwnV c) (.here (Memref.whole cc0_scratch3)) (.dma cc0_scratch4.sem) (View.wordExact_bits rfl)
    (Memref.isWhole_whole _).wordExact ⟨Or.inl rfl, trivial⟩) fun _ =>
  wCopy c 0 0 <| wCopy c 1 1 <| wCopy c 2 2 <|
  .op (.waitDma2 cc0_scratch4.sem (xOwnV c) (Memref.whole cc0_scratch3) (View.wordExact_bits rfl) (Memref.isWhole_whole _).wordExact) fun _ =>
  wWait c 0 0 <|
  .op (.load (Memref.whole cc0_scratch3) (Rect.unit (s := S1024x1024) ![0, 0] S1024x1024.size inb_S1024x1024_S1024x1024_0_0).toLoadRect
    (View.loadsAt_vmem h_S1024x1024)) fun v₁ =>
  .op (.load (Memref.whole cc0_scratch5) (slotR 0).toLoadRect (View.loadsAt_vmem h_S1x1024x2048)) fun v₂ =>
  .op (.load o (Rect.unit (s := S1024x2048) ![0, 0] S1024x2048.size inb_S1024x2048_S1024x2048_0_0).toLoadRect
    (View.loadsAt_vmem h_S1024x2048)) fun _ =>
  .op (.store o (Rect.unit (s := S1024x2048) ![0, 0] S1024x2048.size inb_S1024x2048_S1024x2048_0_0) (k0_pay1 v₁ v₂) Finset.univ
    (View.stores_vmem_bits_univ h_S1024x2048 rfl) (.inl rfl)) fun _ =>
  wCopy c 3 0 <| wWait c 1 1 <| wWait c 2 2 <| wWait c 3 0 <| products c o

/-- The barrier: signal the three others, wait for three signals. -/
def barrier (c : Dev nD) (K : KProg F) : KProg F :=
  .op (.semSignal ((⟨k0_dev1 c, k0_dev1_lt c⟩ : Dev nD), .tc) barrier0 1) fun _ =>
  .op (.semSignal ((⟨k0_dev2 c, k0_dev2_lt c⟩ : Dev nD), .tc) barrier0 1) fun _ =>
  .op (.semSignal ((⟨k0_dev3 c, k0_dev3_lt c⟩ : Dev nD), .tc) barrier0 1) fun _ =>
  .op (.semWait barrier0 3) fun _ => K

/-- The whole body, the result's buffer `o`. -/
def body (o : Memref sig .tc .vmem S1024x2048 .f32) : KProg F :=
  .op .deviceId fun c => barrier c <| sends c (own c o) 24 le_rfl

set_option maxRecDepth 65536 in
/-- The printed body is the body written with loops. -/
theorem body_eq (o : Memref sig .tc .vmem S1024x2048 .f32) (ho : o.IsWhole) :
    cc0_body (F := F) (Memref.whole main_arg0) (Memref.isWhole_whole _) (Memref.whole main_arg1) (Memref.isWhole_whole _) o ho
      (Memref.whole cc0_scratch0) (Memref.isWhole_whole _) cc0_scratch1 cc0_scratch2 (Memref.whole cc0_scratch3) (Memref.isWhole_whole _)
      cc0_scratch4 (Memref.whole cc0_scratch5) (Memref.isWhole_whole _) cc0_scratch6 (Memref.whole cc0_scratch7) (Memref.isWhole_whole _)
      cc0_scratch8 cc0_scratch9 = body o := by
  chain_rfl

end Cert.Mm

end
-- ==== Proof.Contents.lean ====
/- The values the run carries: what each buffer holds at each stage, for any float values, as functions of the
   launch memory `m`. Device `c` multiplies its own block of rows first, then the eight chunks of each of the three
   flows as they land; takes the running maximum; exchanges it; quantises. -/
module

public import proofs.«01_k».proof.Proof.Body

@[expose] public section

noncomputable section

namespace Cert.Mm

open Idealize.ShloMosaic Idealize.ShloMosaic.TcCoe Idealize.SL.Sem Cert.KernelIdeal Cert.KernelIdeal.Gen

variable {F : FTy → Type} [FloatOps F]

/-! ## The devices around -/

set_option backward.proofsInPublic true in
/-- The device `j + 1` places after `c`. -/
def fwd (c : Dev nD) (j : Fin 3) : Dev nD := ⟨(c.val + (j.val + 1)) % 4, Nat.mod_lt _ (by decide)⟩
set_option backward.proofsInPublic true in
/-- The device `j + 1` places before `c`. -/
def bwd (c : Dev nD) (j : Fin 3) : Dev nD := ⟨(c.val + (3 - j.val)) % 4, Nat.mod_lt _ (by decide)⟩

theorem fwd_bwd (c : Dev nD) (j : Fin 3) : fwd (bwd c j) j = c := by revert c j; decide
theorem bwd_fwd (c : Dev nD) (j : Fin 3) : bwd (fwd c j) j = c := by revert c j; decide

/-- Going `j + 1` places on, as a permutation of the devices. -/
def turn (j : Fin 3) : Dev nD ≃ Dev nD := ⟨fun c => fwd c j, fun c => bwd c j, fun c => bwd_fwd c j, fun c => fwd_bwd c j⟩

/-- The distance of copy `i`, less one. -/
def far (i : Fin 24) : Fin 3 := flowR (i.val / 8)

theorem flowDev_eq (c : Dev nD) (i : Fin 24) : flowDev c (i.val / 8) = fwd c (far i) := by revert c i; decide +kernel
theorem amaxDev_eq (c : Dev nD) (j : Fin 3) : amaxDev c j = fwd c j := by revert c j; decide +kernel
theorem dev1_eq (c : Dev nD) : (⟨k0_dev1 c, k0_dev1_lt c⟩ : Dev nD) = bwd c 2 := by revert c; decide +kernel
theorem dev2_eq (c : Dev nD) : (⟨k0_dev2 c, k0_dev2_lt c⟩ : Dev nD) = bwd c 1 := by revert c; decide +kernel
theorem dev3_eq (c : Dev nD) : (⟨k0_dev3 c, k0_dev3_lt c⟩ : Dev nD) = bwd c 0 := by revert c; decide +kernel

/-! ## The arguments -/

variable (m : (ℓ : Loc nD τ sig) → Buf (Elt F) ℓ)

/-- Device `c`'s block of `x`. -/
abbrev mx (c : Dev nD) : (main_arg0 : Ref sig .tc).ty.Contents (Elt F) := m ((c : Thread nD τ).loc main_arg0)
/-- Device `c`'s copy of `w`. -/
abbrev mw (c : Dev nD) : (main_arg1 : Ref sig .tc).ty.Contents (Elt F) := m ((c : Thread nD τ).loc main_arg1)

/-- The chunk that copy `i` leaves on device `c`: the sender is `far i + 1` places before. -/
def xIn (c : Dev nD) (i : Fin 24) : FVec F S128x1024 .f32 := (xV (bwd c (far i)) i).view.read (Elt F) (mx m (bwd c (far i)))
/-- The own block of rows of `x`. -/
def xOwn (c : Dev nD) : FVec F S1024x1024 .f32 := (xOwnV c).view.read (Elt F) (mx m c)
/-- Row block `j` of `w`, as loaded. -/
def wIn (c : Dev nD) (j : Fin 4) : FVec F S1024x2048 .f32 := (wV c j).view.read (Elt F) (mw m c)

/-! ## The result's buffer -/

/-- The contents of the result's staging buffer. -/
abbrev OutC (F : FTy → Type) : Type := (cc0_stg0_0 : Ref sig .tc).ty.Contents (Elt F)
/-- The result's staging buffer. -/
abbrev oM : Memref sig .tc .vmem S1024x2048 .f32 := Memref.whole cc0_stg0_0

/-- The rows of chunk `k`, read. -/
def rowsRd (k : Fin 8) (f : OutC F) : FVec F S128x2048 .f32 := (oM.access (rowsR k)).read (Elt F) f
/-- The rows of chunk `k`, overwritten by `v`. -/
def rowsWr (k : Fin 8) (f : OutC F) (v : FVec F S128x2048 .f32) : OutC F := (oM.access (rowsR k)).write (Elt F) f v Finset.univ

/-- The product of the own blocks. -/
def mulOwn (X : FVec F S1024x1024 .f32) (W : FVec F S1024x2048 .f32) : OutC F :=
  matmul (F := F) dot_S1024x1024_S1024x2048_S1024x2048_1_0_0_1_n_n none X W (constant S1024x2048 .f32 0x00000000#32)
/-- A chunk's product added to the rows `v`. -/
def mulAdd (v : FVec F S128x2048 .f32) (X : FVec F S128x1024 .f32) (W : FVec F S1024x2048 .f32) : FVec F S128x2048 .f32 :=
  addf (F := F) (shapeCast S128x2048 v shapeCasts_S128x2048_S128x2048)
    (matmul (F := F) dot_S128x1024_S1024x2048_S128x2048_1_0_0_1_n_n none X W (constant S128x2048 .f32 0x00000000#32))

/-- The load of `w` that flow `f` multiplies by. -/
def flowW : Fin 3 → Fin 4
  | 0 => 1
  | 1 => 2
  | 2 => 3

/-- The flow of the `n`-th addition. -/
def fOf (n : ℕ) : Fin 3 := ⟨n % 3, Nat.mod_lt _ (by decide)⟩
/-- The chunk of the `n`-th addition. -/
def kOf (n : ℕ) : Fin 8 := ⟨n / 3 % 8, Nat.mod_lt _ (by decide)⟩

/-- The result's buffer after `n` additions. -/
def outN (c : Dev nD) : ℕ → OutC F
  | 0 => mulOwn (xOwn m c) (wIn m c 0)
  | n + 1 => rowsWr (kOf n) (outN c n) (mulAdd (rowsRd (kOf n) (outN c n)) (xIn m c (copyNo (fOf n) (kOf n))) (wIn m c (flowW (fOf n))))

/-- The running maximum after chunk `k`. -/
def amaxN (c : Dev nD) : ℕ → F .f32
  | 0 => k0_pay8 (rowsRd (kOf 0) (outN m c 3))
  | k + 1 => Scalar.maximumf (amaxN c k) (k0_pay8 (rowsRd (kOf (3 * (k + 1))) (outN m c (3 * (k + 1) + 3))))

/-- The device whose maximum slot `d` of device `c`'s buffer of maxima holds. -/
def amaxOf (c : Dev nD) (d : Fin 4) : Dev nD := ⟨(c.val + (4 - d.val)) % 4, Nat.mod_lt _ (by decide)⟩

theorem amaxOf_zero (c : Dev nD) : amaxOf c 0 = c := by revert c; decide
theorem amaxOf_succ (c : Dev nD) (j : Fin 3) : amaxOf (fwd c j) j.succ = c := by revert c j; decide

/-- The buffer of maxima once all four are in. -/
def amaxC (c : Dev nD) : (cc0_scratch7 : Ref sig .tc).ty.Contents (Elt F) :=
  fun i : S4x8x128.Idx => amaxN m (amaxOf c (i 0)) 7

/-- The result's buffer after `n` chunks have been quantised. -/
def quantN (c : Dev nD) : ℕ → OutC F
  | 0 => outN m c 24
  | n + 1 => rowsWr (kOf (3 * n)) (quantN c n) (k0_pay54 (amaxC m c) (rowsRd (kOf (3 * n)) (quantN c n)))

/-- Device `c`'s result. -/
def outAt (c : Dev nD) : OutC F := quantN m c 8

end Cert.Mm

end
-- ==== Proof.Protocol.lean ====
/- The protocol: each semaphore of a device, who pays it, how much, and what is handed over.

   * the barrier: three duties of one unit. Duty `j` of device `c`'s barrier is paid by the device `j + 1` places after
     `c`, and hands `c` what it will write there: the eight chunks of that device's receive buffer that `c` fills, and
     its slot of the buffer of maxima.
   * `recv i`: paid by copy `i` of the device `far i + 1` places before; hands over the landed chunk.
   * `send i`: paid by the own copy `i`; hands the chunk of `x` back.
   * `x` and `w s`: paid by the local loads; hand over the loaded block and the source back. `w 0` has two rounds.
   * `arecv j`, `asend j`: the same for the maxima.

   A source is read by several copies at a time: each holds a share of it. -/
module

public import proofs.«01_k».proof.Proof.Contents
public import Idealize.ShloMosaic.Lib.Pipeline.Launch
public import Idealize.ShloMosaic.Lib.Pipeline.Kit
public import Idealize.ShloMosaic.Lib.SparseCore.ProtocolKit
public import Idealize.ShloMosaic.Lib.Tactic

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

/-! ## The cells -/

/-- The kernel's own semaphores of one device. -/
inductive Own where
  | x
  | send (i : Fin 24)
  | recv (i : Fin 24)
  | w (s : Fin 3)
  | asend (j : Fin 3)
  | arecv (j : Fin 3)
deriving DecidableEq

/-- The own semaphores, as a sum of finite types. -/
def Own.equiv : Unit ⊕ Fin 24 ⊕ Fin 24 ⊕ Fin 3 ⊕ Fin 3 ⊕ Fin 3 ≃ Own where
  toFun
    | .inl _ => .x
    | .inr (.inl i) => .send i
    | .inr (.inr (.inl i)) => .recv i
    | .inr (.inr (.inr (.inl s))) => .w s
    | .inr (.inr (.inr (.inr (.inl j)))) => .asend j
    | .inr (.inr (.inr (.inr (.inr j)))) => .arecv j
  invFun
    | .x => .inl ()
    | .send i => .inr (.inl i)
    | .recv i => .inr (.inr (.inl i))
    | .w s => .inr (.inr (.inr (.inl s)))
    | .asend j => .inr (.inr (.inr (.inr (.inl j))))
    | .arecv j => .inr (.inr (.inr (.inr (.inr j))))
  left_inv k := by rcases k with _ | _ | _ | _ | _ | _ <;> rfl
  right_inv k := by cases k <;> rfl

instance : Fintype Own := Fintype.ofEquiv _ Own.equiv

/-- All the semaphores of one device: the barrier (`none`) and the own ones. -/
abbrev Cel : Type := Option Own

/-- Where each own semaphore lies. -/
def osem : Own → SemLoc sig
  | .x => .dma cc0_scratch4.sem
  | .send i => .dma (semAt24 cc0_scratch1 i)
  | .recv i => .dma (semAt24 cc0_scratch2 i)
  | .w s => .dma (semAt3 cc0_scratch6 s)
  | .asend j => .dma (semAt3 cc0_scratch8 j)
  | .arecv j => .dma (semAt3 cc0_scratch9 j)

/-- Where each semaphore lies. -/
def csem : Cel → SemLoc sig
  | none => .reg barrier0
  | some k => osem k

/-- The semaphore of each name, as a cell of device `c`. -/
abbrev kcell (ck : Dev nD × Cel) : GSem nD τ sig := ((ck.1 : Thread nD τ), csem ck.2)

/-- Which semaphore number `q` of the DMA semaphores is. -/
def dmaRole (q : ℕ) : Option Cel :=
  if q = 0 then none
  else if h : q < 25 then some (some (.send ⟨q - 1, by omega⟩))
  else if h : q < 49 then some (some (.recv ⟨q - 25, by omega⟩))
  else if q = 49 then some (some .x)
  else if h : q < 53 then some (some (.w ⟨q - 50, by omega⟩))
  else if h : q < 56 then some (some (.asend ⟨q - 53, by omega⟩))
  else if h : q < 59 then some (some (.arecv ⟨q - 56, by omega⟩))
  else none

/-- Which semaphore lies at a place. -/
def role : SemLoc sig → Option Cel
  | .reg _ => some none
  | .dma q => dmaRole q.val

theorem role_csem (k : Cel) : role (csem k) = some k := by
  rcases k with _ | (_ | i | i | s | j | j)
  · rfl
  · rfl
  · revert i; decide +kernel
  · revert i; decide +kernel
  · revert s; decide +kernel
  · revert j; decide +kernel
  · revert j; decide +kernel

theorem csem_injective : Function.Injective csem := fun k k' h =>
  Option.some.inj ((role_csem k).symm.trans ((congrArg role h).trans (role_csem k')))

/-! ## Amounts, rounds, levels -/

/-- What a transfer into `v` pays. -/
@[irreducible] def credit {sp : Space} {s : Shape} (v : Memref sig .tc sp s .f32) : ℕ := v.view.dmaCredit

theorem credit_eq {sp : Space} {s : Shape} (v : Memref sig .tc sp s .f32) : credit v = v.view.dmaCredit := by
  unfold credit; rfl
theorem credit_pos {sp : Space} {s : Shape} (v : Memref sig .tc sp s .f32) (h : 0 < s.numel) : 0 < credit v := by
  rw [credit_eq]; exact View.dmaCredit_pos _ h

/-- What one transfer pays each semaphore. -/
def amt : Cel → ℕ
  | none => 1
  | some .x => credit (Memref.whole cc0_scratch3 : Memref sig .tc .vmem S1024x1024 .f32)
  | some (.send i) => credit (commV i)
  | some (.recv i) => credit (commV i)
  | some (.w s) => credit (slotV s)
  | some (.asend j) => credit (amaxV j.succ)
  | some (.arecv j) => credit (amaxV j.succ)

theorem numel_comm : 0 < S128x1024.numel := by decide +kernel
theorem numel_x : 0 < S1024x1024.numel := by decide +kernel
theorem numel_w : 0 < S1024x2048.numel := by decide +kernel
theorem numel_amax : 0 < S8x128.numel := by decide +kernel

theorem amt_pos : (k : Cel) → 0 < amt k
  | none => Nat.one_pos
  | some .x => credit_pos _ numel_x
  | some (.send i) => credit_pos (commV i) numel_comm
  | some (.recv i) => credit_pos (commV i) numel_comm
  | some (.w s) => credit_pos (slotV s) numel_w
  | some (.asend j) => credit_pos (amaxV j.succ) numel_amax
  | some (.arecv j) => credit_pos (amaxV j.succ) numel_amax

/-- How many rounds each semaphore has. -/
def rounds (k : Cel) : ℕ := if k = some (.w 0) then 2 else 1

/-- The duties of each semaphore's rounds. -/
def duty (k : Cel) : Finset (Fin 3) := if k = none then Finset.univ else {0}

/-- The level of each semaphore: a device waits only for what lies below all it owes. -/
def level : Option Cel → ℕ
  | some none => 1
  | some (some (.recv _)) => 2
  | some (some (.arecv _)) => 3
  | _ => 0

/-! ## The shares of a source that several copies read -/

/-- What is left of the full share after `n` pieces. -/
def rest : ℕ → PosShare TreeShare
  | 0 => fullShare
  | n + 1 => (rest n).right
/-- The `n`-th piece. -/
def piece (n : ℕ) : PosShare TreeShare := (rest n).left

open PCS in
theorem rest_split (n : ℕ) : rest n ∈ piece n ·? rest (n + 1) := PosShare.mem_left_op_right (rest n)

/-! ## The resources handed over -/

/-- The two copies of the algebra: the pipeline's and the protocol's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

section Res

variable (c : Dev nD) {sp : Space} {s : Shape} (v : Memref sig .tc sp s .f32) (q : PosShare TreeShare)

/-- The part of device `c`'s buffer that `v` shows, at contents `f`. -/
def ptsV (f : v.view.ty.Contents (Elt F)) : sProp 𝕄 := v.view.loc (c : Thread nD τ) ↦[v.view.set]{q} f
/-- The same at any contents that read `X` through `v`. -/
def hasV (X : FVec F s .f32) : sProp 𝕄 := iprop(∃ f, ⌜v.view.read (Elt F) f = X⌝ ∗ ptsV c v q f)
/-- The same at any contents, whole. -/
def anyV : sProp 𝕄 := iprop(∃ f, ptsV (F := F) c v fullShare f)

omit [FloatOps F] in
instance ptsV_storable (f) : BI.Storable (upEmb : UEmb _ 𝕄) (ptsV (F := F) c v q f) := by unfold ptsV; infer_instance
omit [FloatOps F] in
instance hasV_storable (X) : BI.Storable (upEmb : UEmb _ 𝕄) (hasV (F := F) c v q X) := by unfold hasV; infer_instance
omit [FloatOps F] in
instance anyV_storable : BI.Storable (upEmb : UEmb _ 𝕄) (anyV (F := F) c v) := by unfold anyV; infer_instance

end Res

variable (m : (ℓ : Loc nD τ sig) → Buf (Elt F) ℓ)

/-- Which load of `w` fills slot `s` in round `r`. -/
def wJ (s : Fin 3) (r : ℕ) : Fin 4 := if r = 0 then s.castSucc else 3

/-- What device `d`, `j + 1` places after, lets its predecessor write: eight chunks and a slot. -/
def barPay (d : Dev nD) (j : Fin 3) : sProp 𝕄 :=
  iprop((bigSep Finset.univ fun k : Fin 8 => anyV (F := F) d (commV (copyNo (flowR j.val) k))) ∗ anyV (F := F) d (amaxV j.succ))
/-- The landed chunk. -/
def recvPay (c : Dev nD) (i : Fin 24) : sProp 𝕄 := hasV c (commV i) fullShare (xIn m c i)
/-- The chunk sent, back. -/
def sendPay (c : Dev nD) (i : Fin 24) : sProp 𝕄 := ptsV c (xV c i) (piece i.val) (mx m c)
/-- The own block loaded, and its source back. -/
def xPay (c : Dev nD) : sProp 𝕄 :=
  iprop(hasV c (Memref.whole cc0_scratch3 : Memref sig .tc .vmem S1024x1024 .f32) fullShare (xOwn m c) ∗ ptsV c (xOwnV c) (piece 24) (mx m c))
/-- Row block `j` of `w` loaded into slot `s`, and its source back. -/
def wPay (c : Dev nD) (s : Fin 3) (j : Fin 4) : sProp 𝕄 :=
  iprop(hasV c (slotV s) fullShare (wIn m c j) ∗ ptsV c (wV c j) (piece j.val) (mw m c))
/-- The own maximum, sent, back. -/
def asendPay (c : Dev nD) (j : Fin 3) : sProp 𝕄 := ptsV c (amaxV 0) (piece j.val) (amaxC m c)
/-- Another's maximum, landed. -/
def arecvPay (c : Dev nD) (j : Fin 3) : sProp 𝕄 := ptsV c (amaxV j.succ) fullShare (amaxC m c)

/-- What the payment of duty `d` of round `r` hands device `c`. -/
def pay (c : Dev nD) (r : ℕ) (d : Fin 3) : Option Cel → sProp 𝕄
  | some none => barPay (fwd c d) d
  | some (some .x) => xPay m c
  | some (some (.send i)) => sendPay m c i
  | some (some (.recv i)) => recvPay m c i
  | some (some (.w s)) => wPay m c s (wJ s r)
  | some (some (.asend j)) => asendPay m c j
  | some (some (.arecv j)) => arecvPay m c j
  | none => iprop(emp)

omit [FloatOps F] in
instance barPay_storable (d : Dev nD) (j : Fin 3) : BI.Storable (upEmb : UEmb _ 𝕄) (barPay (F := F) d j) := by
  unfold barPay; infer_instance

instance recvPay_storable (c : Dev nD) (i) : BI.Storable (upEmb : UEmb _ 𝕄) (recvPay m c i) := by unfold recvPay; infer_instance
instance sendPay_storable (c : Dev nD) (i) : BI.Storable (upEmb : UEmb _ 𝕄) (sendPay m c i) := ptsV_storable (F := F) c (xV c i) _ _
instance xPay_storable (c : Dev nD) : BI.Storable (upEmb : UEmb _ 𝕄) (xPay m c) :=
  have := ptsV_storable (F := F) c (xOwnV c) (piece 24) (mx m c)
  BI.Storable.sep _ _ _
instance wPay_storable (c : Dev nD) (s j) : BI.Storable (upEmb : UEmb _ 𝕄) (wPay m c s j) :=
  have := ptsV_storable (F := F) c (wV c j) (piece j.val) (mw m c)
  BI.Storable.sep _ _ _
instance asendPay_storable (c : Dev nD) (j) : BI.Storable (upEmb : UEmb _ 𝕄) (asendPay m c j) := ptsV_storable (F := F) c (amaxV 0) _ _
instance arecvPay_storable (c : Dev nD) (j) : BI.Storable (upEmb : UEmb _ 𝕄) (arecvPay m c j) := ptsV_storable (F := F) c (amaxV j.succ) _ _

instance pay_storable (c : Dev nD) (r : ℕ) (d : Fin 3) : (k : Option Cel) → BI.Storable (upEmb : UEmb _ 𝕄) (pay m c r d k)
  | some none => barPay_storable (fwd c d) d
  | some (some .x) => xPay_storable m c
  | some (some (.send i)) => sendPay_storable m c i
  | some (some (.recv i)) => recvPay_storable m c i
  | some (some (.w s)) => wPay_storable m c s (wJ s r)
  | some (some (.asend j)) => asendPay_storable m c j
  | some (some (.arecv j)) => arecvPay_storable m c j
  | none => show BI.Storable (upEmb : UEmb _ 𝕄) iprop(emp) from inferInstance

/-- The schedule of the protocol. -/
def Rd : Rounds.Schedule (GSem nD τ sig) (Fin 3) 𝕄 where
  duties g r := if g.1.2 = .tc then (match role g.2 with | none => ∅ | some k => if r < rounds k then duty k else ∅) else ∅
  unitless _ := False
  amount g _ _ := match role g.2 with | none => 1 | some k => amt k
  payload g r d := pay m g.1.1 r d (role g.2)
  amount_pos g _ _ _ := by
    cases role g.2 with
    | none => exact Nat.one_pos
    | some k => exact amt_pos k

instance Rd_storable (g : GSem nD τ sig) (r : ℕ) (d : Fin 3) : BI.Storable (upEmb : UEmb _ 𝕄) ((Rd m).payload g r d) :=
  pay_storable m g.1.1 r d (role g.2)

theorem duties_eq (c : Dev nD) (k : Cel) (r : ℕ) : (Rd m).duties (kcell (c, k)) r = if r < rounds k then duty k else ∅ := by
  show (if (Proc.tc : Proc τ) = .tc then (match role (csem k) with | none => ∅ | some k => if r < rounds k then duty k else ∅) else ∅) = _
  rw [if_pos rfl, role_csem]
theorem duties_own (c : Dev nD) (k : Own) (r : ℕ) (hr : r < rounds (some k)) : (Rd m).duties (kcell (c, some k)) r = {0} := by
  rw [duties_eq, if_pos hr]; rfl
theorem duties_bar (c : Dev nD) : (Rd m).duties (kcell (c, none)) 0 = Finset.univ := by
  rw [duties_eq]; rfl
theorem duties_later (c : Dev nD) (k : Cel) : ∀ r, rounds k ≤ r → (Rd m).duties (kcell (c, k)) r = ∅ := fun r hr => by
  rw [duties_eq, if_neg (Nat.not_lt.mpr hr)]
theorem amount_eq (c : Dev nD) (k : Cel) (r : ℕ) (d : Fin 3) : (Rd m).amount (kcell (c, k)) r d = amt k := by
  show (match role (csem k) with | none => 1 | some k => amt k) = _
  rw [role_csem]
theorem payload_eq (c : Dev nD) (k : Cel) (r : ℕ) (d : Fin 3) : (Rd m).payload (kcell (c, k)) r d = pay m c r d (some k) := by
  show pay m c r d (role (csem k)) = _
  rw [role_csem]
theorem expect_own (c : Dev nD) (k : Own) (r : ℕ) (hr : r < rounds (some k)) : (Rd m).expect (kcell (c, some k)) r = amt (some k) := by
  unfold Schedule.expect Schedule.amountOf; rw [duties_own m c k r hr, Finset.sum_singleton, amount_eq]
theorem expect_bar (c : Dev nD) : (Rd m).expect (kcell (c, none)) 0 = 3 := by
  unfold Schedule.expect Schedule.amountOf
  rw [duties_bar, Finset.sum_congr rfl fun d _ => amount_eq m c none 0 d, Finset.sum_const, Finset.card_univ, Fintype.card_fin]
  rfl
/-- What the wait of an own semaphore's round brings. -/
theorem rest_own (c : Dev nD) (k : Own) (r : ℕ) (hr : r < rounds (some k)) :
    bigSep ((Rd m).duties (kcell (c, some k)) r \ ∅) (fun d => (Rd m).payload (kcell (c, some k)) r d) = pay m c r 0 (some (some k)) := by
  rw [Finset.sdiff_empty, duties_own m c k r hr, bigSep_singleton, payload_eq]
/-- What the wait at the barrier brings. -/
theorem rest_bar (c : Dev nD) :
    bigSep ((Rd m).duties (kcell (c, none)) 0 \ ∅) (fun d => (Rd m).payload (kcell (c, none)) 0 d)
      = bigSep Finset.univ fun j : Fin 3 => barPay (F := F) (fwd c j) j := by
  rw [Finset.sdiff_empty, duties_bar]
  exact bigSep_congr fun d _ => payload_eq m c none 0 d

theorem rounds_of_ne {k : Cel} (h : k ≠ some (.w 0)) : rounds k = 1 := if_neg h
theorem rounds_pos (k : Cel) : 0 < rounds k := by unfold rounds; split <;> decide

/-! ## What a device owes, and the levels -/

abbrev barC (c : Dev nD) : GSem nD τ sig := kcell (c, none)
abbrev sendC (c : Dev nD) (i : Fin 24) : GSem nD τ sig := kcell (c, some (.send i))
abbrev recvC (c : Dev nD) (i : Fin 24) : GSem nD τ sig := kcell (c, some (.recv i))
abbrev xC (c : Dev nD) : GSem nD τ sig := kcell (c, some .x)
abbrev wC (c : Dev nD) (s : Fin 3) : GSem nD τ sig := kcell (c, some (.w s))
abbrev asendC (c : Dev nD) (j : Fin 3) : GSem nD τ sig := kcell (c, some (.asend j))
abbrev arecvC (c : Dev nD) (j : Fin 3) : GSem nD τ sig := kcell (c, some (.arecv j))

/-- The credit of one payment to the semaphore `k` of device `c`. -/
abbrev unit1 (c : Dev nD) (k : Cel) : CellTallies nD τ sig Unit := tallyAt (kcell (c, k)) () (amt k)

/-- The maxima still to be sent, from the `n`-th on. -/
def owedA (c : Dev nD) (n : ℕ) : CellTallies nD τ sig Unit :=
  ∑ j ∈ finFrom 3 n, unit1 (fwd c j) (some (.arecv j))
/-- The chunks still to be sent, from the `n`-th on, and the maxima. -/
def owedS (c : Dev nD) (n : ℕ) : CellTallies nD τ sig Unit :=
  owedA c 0 + ∑ i ∈ finFrom 24 n, unit1 (fwd c (far i)) (some (.recv i))
/-- What a device owes at launch: the three signals of the barrier too. -/
def owed₀ (c : Dev nD) : CellTallies nD τ sig Unit :=
  owedS c 0 + unit1 (bwd c 0) none + unit1 (bwd c 1) none + unit1 (bwd c 2) none

def L (g : GSem nD τ sig) : Finset Unit := if g.1.2 = .tc then {()} else ∅
def lv (g : GSem nD τ sig) (_ : Unit) : ℕ := level (role g.2)

theorem L_of_ne (g : GSem nD τ sig) (h : g.1.2 ≠ .tc) : L g = ∅ := if_neg h
theorem L_of_tc (g : GSem nD τ sig) (h : g.1.2 = .tc) : L g = {()} := if_pos h

/-- Everything owed lies above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem Above.sum {n : ℕ} {ι : Type} (S : Finset ι) (f : ι → CellTallies nD τ sig Unit) (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))
theorem Above.unit1 {n : ℕ} (c : Dev nD) (k : Cel) (h : n < level (some k)) : Above n (unit1 c k) := fun g u hg => by
  rw [tallyAt_apply] at hg
  by_cases h' : g = kcell (c, k) ∧ u = ()
  · rw [h'.1]; exact ⟨rfl, by show n < level (role (csem k)); rw [role_csem]; exact h⟩
  · rw [if_neg h'] at hg; exact absurd hg (Nat.lt_irrefl 0)

theorem above_owedA (c : Dev nD) (j : ℕ) : Above 2 (owedA c j) := Above.sum _ _ fun i _ => Above.unit1 _ _ (by decide : 2 < 3)
theorem Above.mono {n n' : ℕ} (h : n' ≤ n) {O : CellTallies nD τ sig Unit} (hO : Above n O) : Above n' O := fun g u hg =>
  ⟨(hO g u hg).1, Nat.lt_of_le_of_lt h (hO g u hg).2⟩
theorem above_owedS (c : Dev nD) (i : ℕ) : Above 1 (owedS c i) :=
  (Above.mono (by decide) (above_owedA c 0)).add (Above.sum _ _ fun i _ => Above.unit1 _ _ (by decide : 1 < 2))
theorem above_owed₀ (c : Dev nD) : Above 0 (owed₀ c) :=
  (((Above.mono (by decide) (above_owedS c 0)).add (Above.unit1 _ _ (by decide : 0 < 1))).add (Above.unit1 _ _ (by decide : 0 < 1))).add
    (Above.unit1 _ _ (by decide : 0 < 1))

omit [FloatOps F] in
/-- A device may wait for a semaphore whose level is at most `n` when all it owes lies above `n`. -/
theorem mayWait (c : Dev nD) (sm : SemLoc sig) (n : ℕ) (O : CellTallies nD τ sig Unit) (hs : level (role sm) ≤ n) (hO : Above n O) :
    (levAts L lv : sProp 𝕄) ⊢ MayWait (c : Thread nD τ) sm () O :=
  MayOwe.of_cut (L := L) (lev := lv) n (fun p hp => by rw [Finset.mem_singleton.mp hp, L_of_tc _ rfl]; exact Finset.mem_singleton_self _)
    (fun g u hg => by rw [L_of_tc g (hO g u hg).1]; exact Finset.mem_singleton_self _)
    (fun p hp => by rw [Finset.mem_singleton.mp hp]; exact hs)
    (fun g u hg => (hO g u hg).2)

end Cert.Mm

end
-- ==== Proof.Steps.lean ====
/- One rule per kind of step of the kernel: what a device must hold before a signal, a wait, a copy, a load or a store,
   and what it holds afterwards. The loops of the kernel repeat these steps. -/
module

public import proofs.«01_k».proof.Proof.Protocol

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Cel → ℕ)

/-! ## What every device knows -/

/-- The invariants of all semaphores, that each has reached its first round, and the levels. -/
def recs : sProp 𝕄 :=
  iprop((bigSep Finset.univ fun ck : Dev nD × Cel => cellInv ER (Rd m) (K ck) (kcell ck))
    ∗ (bigSep Finset.univ fun ck : Dev nD × Cel => reached (ER (F := F)) (kcell ck) 0) ∗ levAts L lv)

instance recs_persistent : BI.Persistent (recs m K) := by unfold recs; infer_instance

theorem recs_inv (ck : Dev nD × Cel) : recs m K ⊢ cellInv ER (Rd m) (K ck) (kcell ck) := by
  unfold recs
  exact sep_elim_left.trans (bigSep_elim (Finset.mem_univ ck))
theorem recs_reached (ck : Dev nD × Cel) : recs m K ⊢ reached ER (kcell ck) 0 := by
  unfold recs
  exact (sep_elim_right.trans sep_elim_left).trans (bigSep_elim (Finset.mem_univ ck))
theorem recs_lev : recs m K ⊢ levAts L lv := by
  unfold recs
  exact sep_elim_right.trans sep_elim_right

/-- What device `c` owes. -/
def ow (c : Dev nD) (O : CellTallies nD τ sig Unit) : sProp 𝕄 := iprop(∃ W, owes (c : Thread nD τ) O W)

/-- Device `c` runs `p`, ending in `R`. -/
abbrev WP (c : Dev nD) (p : KProg F) (R : PUnit → sProp (MT nD τ sig Unit (Elt F) ℕ UU ℕ)) : sProp 𝕄 :=
  wp frame (wpE (defs₀ (F := F)) 𝒱₀ (c : Thread nD τ) none) Set.univ p R

/-- The credit of a transfer depends on its shape alone. -/
theorem dmaCredit_eq {sp sp' : Space} {s : Shape} (v : Memref sig .tc sp s .f32) (v' : Memref sig .tc sp' s .f32) :
    v.view.dmaCredit = v'.view.dmaCredit := rfl

theorem credit_like {sp sp' : Space} {s : Shape} (v : Memref sig .tc sp s .f32) (v' : Memref sig .tc sp' s .f32) :
    credit v = v'.view.dmaCredit := (credit_eq v).trans (dmaCredit_eq v v')

theorem mem_duty (c : Dev nD) (k : Own) (r : ℕ) (hr : r < rounds (some k)) : (0 : Fin 3) ∈ (Rd m).duties (kcell (c, some k)) r := by
  rw [duties_own m c k r hr]; exact Finset.mem_singleton_self _

variable (c : Dev nD) (P : KProg F) (R : PUnit → sProp (MT nD τ sig Unit (Elt F) ℕ UU ℕ))

/-! ## The barrier -/

/-- A signal to the device `j + 1` places before. -/
theorem signal_step (j : Fin 3) (n : Dev nD) (hn : n = bwd c j) (O : CellTallies nD τ sig Unit) :
    iprop(recs m K ∗ ow c (O + unit1 (bwd c j) none) ∗ dutyTok ER (barC (bwd c j)) 0 j ∗ barPay (F := F) c j)
      ⊢ iprop((ow c O -∗ WP c P R) -∗ WP c (.op (.semSignal (n, .tc) barrier0 1) fun _ => P) R) := by
  subst hn
  iintro ⟨#HR, HO, Htok, Hpay⟩ Hk
  unfold ow
  icases HO with ⟨%W, HO⟩
  iapply (Rounds.wp_signal 𝒱₀ ER (Rd m) (c : Thread nD τ) none (dst := (bwd c j : Thread nD τ)) (sem := barrier0) (κ := K (bwd c j, none))
      (r := 0) (d := j) (by rw [show (((bwd c j : Dev nD) : Thread nD τ), (SemLoc.reg barrier0 : SemLoc sig)) = kcell (bwd c j, none) from rfl, duties_bar]; exact Finset.mem_univ _)
      (amount_eq m (bwd c j) none 0 j) () O rfl) $$ [HO Htok Hpay]
  · isplitr; · iapply (recs_inv m K (bwd c j, none)); iexact HR
    isplitl [HO]; · iexact HO
    isplitl [Htok]; · iexact Htok
    isplitl [Hpay]
    · rw [show (Rd m).payload (((bwd c j : Dev nD) : Thread nD τ), (SemLoc.reg barrier0 : SemLoc sig)) 0 j = barPay (F := F) (fwd (bwd c j) j) j from
        payload_eq m (bwd c j) none 0 j, fwd_bwd]
      iexact Hpay
    iapply (recs_reached m K (bwd c j, none)); iexact HR
  iintro HO
  iapply Hk
  iexists W; iexact HO

/-- The wait for the three signals. -/
theorem bar_wait :
    iprop(recs m K ∗ cred (tallyAt (barC c) () 3) ∗ ow c (owedS c 0) ∗ atPos ER (barC c) 0 ∅ 0)
      ⊢ iprop(((ow c (owedS c 0) ∗ atPos ER (barC c) 1 ∅ 0 ∗ bigSep Finset.univ fun j : Fin 3 => barPay (F := F) (fwd c j) j) -∗ WP c P R)
        -∗ WP c (.op (.semWait barrier0 3) fun _ => P) R) := by
  iintro ⟨#HR, Hc, HO, Hat⟩ Hk
  unfold ow
  icases HO with ⟨%W, HO⟩
  iapply (Rounds.wp_wait_rest_token 𝒱₀ ER (Rd m) (c : Thread nD τ) none (κ := K (c, none))
      (wpE_semWait_eq 𝒱₀ (c : Thread nD τ) none Set.univ) (Set.mem_univ _) () (O := owedS c 0) (W := W) (R := 0) (m := 0) (T := ∅)
      (by rw [Nat.zero_add]; exact (expect_bar m c).symm)) $$ [Hc HO Hat]
  · isplitr; · iapply (recs_inv m K (c, none)); iexact HR
    isplitl [Hc]; · iexact Hc
    isplitl [HO]; · iexact HO
    isplitr; · iapply (mayWait c _ 1 (owedS c 0) (by decide) (above_owedS c 0)); iapply (recs_lev m K); iexact HR
    iexact Hat
  iintro ⟨HO, Hat, -, Hpay⟩
  iapply Hk
  isplitl [HO]; · iexists _; iexact HO
  isplitl [Hat]; · iexact Hat
  iapply (Entails.of_eq (rest_bar m c)); iexact Hpay

/-! ## Waits for a copy -/

/-- A wait for a copy at the own semaphore `k`: its round's payload comes with it. -/
theorem dma_wait (k : Own) (r : ℕ) (hr : r < rounds (some k)) {s : DmaSem sig} (hs : osem k = .dma s) {sp sp' : Space} {s₁ s₂ : Shape}
    (src : Memref sig .tc sp s₁ .f32) (dst : Memref sig .tc sp' s₂ .f32) {hsrc : src.view.WordExact} {hdst : dst.view.WordExact}
    (hc : amt (some k) = dst.view.dmaCredit) (O : CellTallies nD τ sig Unit) (n : ℕ) (hl : level (some (some k)) ≤ n) (hO : Above n O) :
    iprop(recs m K ∗ cred (unit1 c (some k)) ∗ ow c O ∗ atPos ER (kcell (c, some k)) r ∅ 0)
      ⊢ iprop(((ow c O ∗ atPos ER (kcell (c, some k)) (r + 1) ∅ 0 ∗ reached ER (kcell (c, some k)) (r + 1) ∗ pay m c r 0 (some (some k))) -∗ WP c P R)
        -∗ WP c (.op (.waitDma2 s src dst hsrc hdst) fun _ => P) R) := by
  have hk : kcell (c, some k) = (((c : Dev nD) : Thread nD τ), (SemLoc.dma s : SemLoc sig)) := by rw [← hs]; rfl
  have he := expect_own m c k r hr
  have hp := rest_own m c k r hr
  have hi := recs_inv m K (c, some k)
  have hw : (levAts L lv : sProp 𝕄) ⊢ MayWait (c : Thread nD τ) (.dma s) () O :=
    mayWait c _ n O (by rw [← hs]; exact (congrArg level (role_csem (some k))).trans_le hl) hO
  unfold unit1
  rw [hk] at he hp hi ⊢
  rw [hc] at he ⊢
  iintro ⟨#HR, Hc, HO, Hat⟩ Hk
  unfold ow
  icases HO with ⟨%W, HO⟩
  iapply (Rounds.wp_wait_rest_token 𝒱₀ ER (Rd m) (c : Thread nD τ) none (κ := K (c, some k))
      (wpE_waitDma2_eq 𝒱₀ (c : Thread nD τ) none Set.univ) (Set.mem_univ _) () (O := O) (W := W) (R := r) (m := 0) (T := ∅)
      (by rw [Nat.zero_add]; exact he.symm)) $$ [Hc HO Hat]
  · isplitr; · iapply hi; iexact HR
    isplitl [Hc]; · iexact Hc
    isplitl [HO]; · iexact HO
    isplitr; · iapply hw; iapply (recs_lev m K); iexact HR
    iexact Hat
  iintro ⟨HO, Hat, Hr, Hpay⟩
  iapply Hk
  isplitl [HO]; · iexists _; iexact HO
  isplitl [Hat]; · iexact Hat
  isplitl [Hr]; · iexact Hr
  iapply (Entails.of_eq hp); iexact Hpay

/-! ## Local copies -/

omit [FloatOps F] in
/-- What a copy leaves: its destination reads what its source read. -/
theorem landed_of {sp sp' : Space} {s₁ : Shape} (src : Memref sig .tc sp s₁ .f32) (dst : Memref sig .tc sp' s₁ .f32)
    (q : PosShare TreeShare) (f : src.view.ty.Contents (Elt F)) (fd : dst.view.ty.Contents (Elt F)) :
    iprop(ptsV c dst fullShare (dst.view.write (Elt F) fd (src.view.read (Elt F) f) Finset.univ) ∗ ptsV c src q f)
      ⊢ iprop(hasV c dst fullShare (src.view.read (Elt F) f) ∗ ptsV c src q f) := by
  unfold hasV
  iintro ⟨Hd, Hs⟩
  isplitl [Hd]
  · iexists (dst.view.write (Elt F) fd (src.view.read (Elt F) f) Finset.univ)
    isplitr; · ipureintro; exact View.read_write_univ _ _
    iexact Hd
  iexact Hs

/-- A local copy paying round `r` of the own semaphore `k`. -/
theorem copy_step (k : Own) (r : ℕ) (hr : r < rounds (some k)) {s : DmaSem sig} (hs : osem k = .dma s) {sp sp' : Space} {s₁ : Shape}
    (src : Memref sig .tc sp s₁ .f32) (dst : Memref sig .tc sp' s₁ .f32) {hsrc : src.view.WordExact} {hdst : dst.view.WordExact}
    {hsem : DmaTarget.Typed (nD := nD) (τ := τ) (sig := sig) (s := s₁) (e := .f32) (p := .tc) sp (.dma s) (.here dst)} (hc : amt (some k) = dst.view.dmaCredit) (q : PosShare TreeShare)
    (f : src.view.ty.Contents (Elt F))
    (hpay : iprop(hasV c dst fullShare (src.view.read (Elt F) f) ∗ ptsV c src q f) ⊢ pay m c r 0 (some (some k))) :
    iprop(recs m K ∗ reached ER (kcell (c, some k)) r ∗ ptsV c src q f ∗ anyV (F := F) c dst ∗ dutyTok ER (kcell (c, some k)) r 0)
      ⊢ iprop((cred (unit1 c (some k)) -∗ WP c P R)
        -∗ WP c (.op (.enqueueDma src (.here dst) (.dma s) hsrc hdst hsem) fun _ => P) R) := by
  have hk : kcell (c, some k) = (((c : Dev nD) : Thread nD τ), (SemLoc.dma s : SemLoc sig)) := by rw [← hs]; rfl
  have hd := mem_duty m c k r hr
  have ha := amount_eq m c (some k) r 0
  have hp := payload_eq m c (some k) r 0
  have hi := recs_inv m K (c, some k)
  unfold unit1
  rw [hk] at hd ha hp hi ⊢
  rw [hc] at ha ⊢
  iintro ⟨#HR, #Hr, Hs, Hd, Htok⟩ Hk
  unfold anyV ptsV
  icases Hd with ⟨%fd, Hd⟩
  iapply (Rounds.wp_copy_pointsTo 𝒱₀ ER (Rd m) (c : Thread nD τ) none (κ := K (c, some k)) (r := r) (d := 0) (fs := f) (q := q) (fd := fd) hd () _ rfl ha
      (by
        rw [hp]
        exact (landed_of c src dst q f fd).trans hpay)) $$ [Hs Hd Htok]
  · isplitr; · iapply hi; iexact HR
    isplitl [Hs]; · iexact Hs
    isplitl [Hd]; · iexact Hd
    isplitl [Htok]; · iexact Htok
    iexact Hr
  iexact Hk

/-! ## Copies to another device -/

/-- A copy to device `n`, paying the own semaphore `k` and `k'` of device `n`. -/
theorem send_step (n n' : Dev nD) (hn : n' = n) (k k' : Own) {s s' : DmaSem sig} (hs : osem k = .dma s) (hs' : osem k' = .dma s')
    (hr : 0 < rounds (some k)) (hr' : 0 < rounds (some k')) {sp sp' : Space} {s₁ : Shape}
    (src : Memref sig .tc sp s₁ .f32) (dst : Memref sig .tc sp' s₁ .f32) {hsrc : src.view.WordExact} {hdst : dst.view.WordExact}
    {hsc : (dst : Memref sig (Dev.tc n' : Thread nD τ).2.kind sp' s₁ .f32).view.ref.isScScratch = false}
    {hsem : DmaTarget.Typed sp (.dma s') (.remote (Dev.tc n' : Thread nD τ) dst (.dma s) hsc)}
    (hc : amt (some k) = dst.view.dmaCredit) (hc' : amt (some k') = dst.view.dmaCredit) (q : PosShare TreeShare)
    (f : src.view.ty.Contents (Elt F))
    (hpay : ptsV c src q f ⊢ pay m c 0 0 (some (some k)))
    (hpay' : ∀ fd, ptsV n dst fullShare (dst.view.write (Elt F) fd (src.view.read (Elt F) f) Finset.univ) ⊢ pay m n 0 0 (some (some k')))
    (O : CellTallies nD τ sig Unit) :
    iprop(recs m K ∗ ptsV c src q f ∗ anyV (F := F) n dst ∗ ow c (O + unit1 n (some k'))
        ∗ dutyTok ER (kcell (c, some k)) 0 0 ∗ dutyTok ER (kcell (n, some k')) 0 0)
      ⊢ iprop(((cred (unit1 c (some k)) ∗ ow c O) -∗ WP c P R)
        -∗ WP c (.op (.enqueueDma src (.remote (Dev.tc n') dst (.dma s) hsc) (.dma s') hsrc hdst hsem) fun _ => P) R) := by
  subst hn
  have hk : kcell (c, some k) = (((c : Dev nD) : Thread nD τ), (SemLoc.dma s : SemLoc sig)) := by rw [← hs]; rfl
  have hk' : kcell (n', some k') = (((n' : Dev nD) : Thread nD τ), (SemLoc.dma s' : SemLoc sig)) := by rw [← hs']; rfl
  have hd := mem_duty m c k 0 hr
  have hd' := mem_duty m n' k' 0 hr'
  have ha := amount_eq m c (some k) 0 0
  have ha' := amount_eq m n' (some k') 0 0
  have hp := payload_eq m c (some k) 0 0
  have hp' := payload_eq m n' (some k') 0 0
  have hi := recs_inv m K (c, some k)
  have hi' := recs_inv m K (n', some k')
  have hr1 := recs_reached m K (c, some k)
  have hr2 := recs_reached m K (n', some k')
  unfold unit1
  rw [hk] at hd ha hp hi hr1 ⊢
  rw [hk'] at hd' ha' hp' hi' hr2 ⊢
  rw [hc] at ha ⊢
  rw [hc'] at ha' ⊢
  iintro ⟨#HR, Hs, Hd, HO, Htok, Htok'⟩ Hk
  unfold anyV ow ptsV
  icases Hd with ⟨%fd, Hd⟩
  icases HO with ⟨%W, HO⟩
  iapply (Rounds.wp_send_pointsTo 𝒱₀ ER (Rd m) (c : Thread nD τ) none (κ₁ := K (c, some k)) (κ₂ := K (n', some k'))
      (r₁ := 0) (r₂ := 0) (d₁ := 0) (d₂ := 0) (fd := fd) hd hd' () () _ rfl ha ha' O rfl (W := W)
      (by rw [hp]; exact hpay) (by rw [hp']; exact hpay' fd)) $$ [Hs Hd HO Htok Htok']
  · isplitr; · iapply hi; iexact HR
    isplitr; · iapply hi'; iexact HR
    isplitl [Hs]; · iexact Hs
    isplitl [Hd]; · iexact Hd
    isplitl [HO]; · iexact HO
    isplitl [Htok]; · iexact Htok
    isplitr; · iapply hr1; iexact HR
    isplitl [Htok']; · iexact Htok'
    iapply hr2; iexact HR
  iintro ⟨Hc, HO⟩
  iapply Hk
  isplitl [Hc]; · iexact Hc
  iexists W; iexact HO

end Cert.Mm

end
-- ==== Proof.Geometry.lean ====
/- The kernel's buffers cut into the parts its transfers fill: the receive buffer into twenty-four chunks, the buffer of
   `w` blocks into three slots, the buffer of maxima into four. Each family of parts is disjoint and covers its buffer. -/
module

public import proofs.«01_k».proof.Proof.Steps

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

/-- A part of a buffer of device `c`, at any contents. -/
def anyS (c : Dev nD) (b : Ref sig .tc) (S : Finset (Idx ((c : Thread nD τ).loc b))) : sProp 𝕄 :=
  iprop(∃ f : Buf (Elt F) ((c : Thread nD τ).loc b), ((c : Thread nD τ).loc b) ↦[S]{fullShare} f)

omit [FloatOps F] in
/-- A buffer is its parts. -/
theorem parts (c : Dev nD) (b : Ref sig .tc) {I : Type} [Fintype I] [DecidableEq I] (S : I → Finset (Idx ((c : Thread nD τ).loc b)))
    (cov : ∀ x, ∃ i, x ∈ S i) (dis : ∀ i j, ∀ x, x ∈ S i → x ∈ S j → i = j) (q : PosShare TreeShare) (f : Buf (Elt F) ((c : Thread nD τ).loc b)) :
    (((c : Thread nD τ).loc b) ↦[Finset.univ]{q} f : sProp 𝕄) = bigSep Finset.univ fun i => ((c : Thread nD τ).loc b) ↦[S i]{q} f := by
  rw [← pointsTo_biUnion Finset.univ S fun i _ j _ h => Finset.disjoint_left.mpr fun x hi hj => h (dis i j x hi hj)]
  congr 1
  exact (Finset.eq_univ_of_forall fun x => Finset.mem_biUnion.mpr ((cov x).elim fun i hi => ⟨i, Finset.mem_univ i, hi⟩)).symm

omit [FloatOps F] in
theorem anyS_split (c : Dev nD) (b : Ref sig .tc) {I : Type} [Fintype I] [DecidableEq I] (S : I → Finset (Idx ((c : Thread nD τ).loc b)))
    (cov : ∀ x, ∃ i, x ∈ S i) (dis : ∀ i j, ∀ x, x ∈ S i → x ∈ S j → i = j) :
    anyS (F := F) c b Finset.univ ⊢ bigSep Finset.univ fun i => anyS (F := F) c b (S i) := by
  have h1 (f : Buf (Elt F) ((c : Thread nD τ).loc b)) (i : I) : (((c : Thread nD τ).loc b) ↦[S i]{fullShare} f : sProp 𝕄) ⊢ anyS (F := F) c b (S i) := by
    unfold anyS; iintro H; iexists f; iexact H
  have hm (f : Buf (Elt F) ((c : Thread nD τ).loc b)) : (bigSep Finset.univ fun i => (((c : Thread nD τ).loc b) ↦[S i]{fullShare} f : sProp 𝕄))
      ⊢ bigSep Finset.univ fun i => anyS (F := F) c b (S i) := bigSep_mono fun i _ => h1 f i
  have hs : anyS (F := F) c b Finset.univ ⊢ iprop(∃ f : Buf (Elt F) ((c : Thread nD τ).loc b), ((c : Thread nD τ).loc b) ↦[Finset.univ]{fullShare} f) := by
    unfold anyS; exact BI.Entails.refl _
  iintro H
  ihave H := hs $$ H
  icases H with ⟨%f, H⟩
  ihave H := (Entails.of_eq (parts c b S cov dis fullShare f)) $$ H
  iapply (hm f); iexact H

omit [FloatOps F] in
theorem anyS_join (c : Dev nD) (b : Ref sig .tc) {I : Type} [Fintype I] [DecidableEq I] (S : I → Finset (Idx ((c : Thread nD τ).loc b)))
    (f₀ : Buf (Elt F) ((c : Thread nD τ).loc b))
    (cov : ∀ x, ∃ i, x ∈ S i) (dis : ∀ i j, ∀ x, x ∈ S i → x ∈ S j → i = j) :
    (bigSep Finset.univ fun i => anyS (F := F) c b (S i)) ⊢ anyS (F := F) c b Finset.univ := by
  haveI : Nonempty (Buf (Elt F) ((c : Thread nD τ).loc b)) := ⟨f₀⟩
  unfold anyS
  iintro H
  ihave H := (bigSep_exists_pi Finset.univ fun i (f : Buf (Elt F) ((c : Thread nD τ).loc b)) => (((c : Thread nD τ).loc b) ↦[S i]{fullShare} f : sProp 𝕄)) $$ H
  icases H with ⟨%fs, H⟩
  ihave H := (pointsTo_biUnion_join Finset.univ S fs f₀ fun i _ j _ h => Finset.disjoint_left.mpr fun x hi hj => h (dis i j x hi hj)) $$ H
  icases H with ⟨%g, -, H⟩
  rw [show Finset.univ.biUnion S = Finset.univ from
    Finset.eq_univ_of_forall fun x => Finset.mem_biUnion.mpr ((cov x).elim fun i hi => ⟨i, Finset.mem_univ i, hi⟩)]
  iexists g; iexact H

/-! ## The receive buffer -/

theorem commV_set (i : Fin 24) : (commV i).view.set = (commR i).set :=
  (View.set_reshape _ _).trans (View.set_slice_whole _ _)

theorem mem_commV (i : Fin 24) (x : S3x1024x1024.Idx) :
    x ∈ (commV i).view.set ↔ (x 0 : ℕ) = i.val / 8 ∧ 128 * (i.val % 8) ≤ (x 1 : ℕ) ∧ (x 1 : ℕ) < 128 * (i.val % 8) + 128 := by
  refine (iff_of_eq (congrArg (fun S : Finset S3x1024x1024.Idx => x ∈ S) (commV_set i))).trans (Rect.mem_set_unit.trans ?_)
  constructor
  · intro h
    have h0 := h 0
    have h1 := h 1
    simp at h0 h1
    omega
  · rintro ⟨h0, h1, h1'⟩ a
    have h2 := (x 2).isLt
    fin_cases a
    · simp; omega
    · simp; omega
    · simp; exact h2

theorem comm_cov (x : S3x1024x1024.Idx) : ∃ i, x ∈ (commV i).view.set := by
  have h0 : (x 0 : ℕ) < 3 := (x 0).isLt
  have h1 : (x 1 : ℕ) < 1024 := (x 1).isLt
  refine ⟨⟨8 * (x 0 : ℕ) + (x 1 : ℕ) / 128, by omega⟩, (mem_commV _ x).mpr ?_⟩
  dsimp only
  omega

theorem comm_dis (i j : Fin 24) (x : S3x1024x1024.Idx) (hi : x ∈ (commV i).view.set) (hj : x ∈ (commV j).view.set) : i = j := by
  have hi := (mem_commV i x).mp hi
  have hj := (mem_commV j x).mp hj
  exact Fin.ext (by omega)

/-! ## The buffer of `w` blocks -/

theorem slotV_set (s : Fin 3) : (slotV s).view.set = (slotR s).set :=
  (View.set_reshape _ _).trans (View.set_slice_whole _ _)

theorem mem_slotV (s : Fin 3) (x : S3x1024x2048.Idx) : x ∈ (slotV s).view.set ↔ (x 0 : ℕ) = s.val := by
  refine (iff_of_eq (congrArg (fun S : Finset S3x1024x2048.Idx => x ∈ S) (slotV_set s))).trans (Rect.mem_set_unit.trans ?_)
  constructor
  · intro h
    have h0 := h 0
    simp at h0
    omega
  · rintro h0 a
    have h1 := (x 1).isLt
    have h2 := (x 2).isLt
    fin_cases a
    · simp; omega
    · simp; exact h1
    · simp; exact h2

theorem slot_cov (x : S3x1024x2048.Idx) : ∃ s, x ∈ (slotV s).view.set := ⟨x 0, (mem_slotV _ x).mpr rfl⟩
theorem slot_dis (i j : Fin 3) (x : S3x1024x2048.Idx) (hi : x ∈ (slotV i).view.set) (hj : x ∈ (slotV j).view.set) : i = j :=
  Fin.ext (((mem_slotV i x).mp hi).symm.trans ((mem_slotV j x).mp hj))

/-! ## The buffer of maxima -/

theorem amaxV_set (d : Fin 4) : (amaxV d).view.set = (amaxR d).set :=
  (View.set_reshape _ _).trans (View.set_slice_whole _ _)

theorem mem_amaxV (d : Fin 4) (x : S4x8x128.Idx) : x ∈ (amaxV d).view.set ↔ (x 0 : ℕ) = d.val := by
  refine (iff_of_eq (congrArg (fun S : Finset S4x8x128.Idx => x ∈ S) (amaxV_set d))).trans (Rect.mem_set_unit.trans ?_)
  constructor
  · intro h
    have h0 := h 0
    simp at h0
    omega
  · rintro h0 a
    have h1 := (x 1).isLt
    have h2 := (x 2).isLt
    fin_cases a
    · simp; omega
    · simp; exact h1
    · simp; exact h2

theorem amax_cov (x : S4x8x128.Idx) : ∃ d, x ∈ (amaxV d).view.set := ⟨x 0, (mem_amaxV _ x).mpr rfl⟩
theorem amax_dis (i j : Fin 4) (x : S4x8x128.Idx) (hi : x ∈ (amaxV i).view.set) (hj : x ∈ (amaxV j).view.set) : i = j :=
  Fin.ext (((mem_amaxV i x).mp hi).symm.trans ((mem_amaxV j x).mp hj))

/-! ## A read through a whole argument -/

omit [FloatOps F] in
/-- A source held whole at a share gives the part a copy reads, and what is left. -/
theorem src_split (c : Dev nD) (b : Ref sig .tc) (S : Finset (Idx ((c : Thread nD τ).loc b))) (q : PosShare TreeShare) (f : Buf (Elt F) ((c : Thread nD τ).loc b)) :
    (((c : Thread nD τ).loc b) ↦[Finset.univ]{q} f : sProp 𝕄)
      ⊣⊢ iprop((((c : Thread nD τ).loc b) ↦[S]{q} f) ∗ ((c : Thread nD τ).loc b) ↦[Finset.univ \ S]{q} f) :=
  pointsTo_split_subset (Finset.subset_univ S)

omit [FloatOps F] in
/-- All the pieces and the rest make the full share. -/
theorem pieces_join (c : Dev nD) (b : Ref sig .tc) (S : Finset (Idx ((c : Thread nD τ).loc b))) (f : Buf (Elt F) ((c : Thread nD τ).loc b)) (N : ℕ) : (n : ℕ) → n ≤ N →
    iprop((((c : Thread nD τ).loc b) ↦[S]{rest n} f) ∗ bigSep (finUpTo N n) fun i : Fin N => ((c : Thread nD τ).loc b) ↦[S]{piece i.val} f)
      ⊢ (((c : Thread nD τ).loc b) ↦[S]{fullShare} f : sProp 𝕄)
  | 0, h => by
    iintro ⟨H, -⟩
    iexact H
  | n + 1, h => by
    rw [bigSep_finUpTo_succ (Nat.lt_of_succ_le h)]
    iintro ⟨Hr, Hp, Hs⟩
    iapply (pieces_join c b S f N n (by omega))
    isplitl [Hr Hp]
    · iapply (pointsTo_share (rest_split n)).2
      isplitl [Hp]; · iexact Hp
      iexact Hr
    iexact Hs

end Cert.Mm

end
-- ==== Proof.Loops.lean ====
/- The loops of the kernel, each with what it starts from and what it leaves: the sends of `x`, the products as the chunks
   land, the exchange of the maxima, the quantisation, and the waits for the sends. -/
module

public import proofs.«01_k».proof.Proof.Geometry

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

/-! ## The sends of `x` -/

/-- Device `c`'s block of `x`, held whole at a share. -/
abbrev xAt (q : PosShare TreeShare) : sProp 𝕄 := ((c : Thread nD τ).loc main_arg0) ↦[Finset.univ]{q} (mx m c)
/-- What is left of the share of `x` that copy `i` reads from. -/
abbrev xLeft (i : Fin 24) : sProp 𝕄 := ((c : Thread nD τ).loc main_arg0) ↦[Finset.univ \ (xV c i).view.set]{piece i.val} (mx m c)

/-- What send `i` needs. -/
def sendNeed (i : Fin 24) : sProp 𝕄 :=
  iprop(anyV (F := F) (fwd c (far i)) (commV i) ∗ dutyTok ER (sendC c i) 0 0 ∗ dutyTok ER (recvC (fwd c (far i)) i) 0 0)
/-- What send `i` leaves. -/
def sendDone (i : Fin 24) : sProp 𝕄 := iprop(cred (unit1 c (some (.send i))) ∗ xLeft m c i)

theorem owedS_succ (i : ℕ) (h : i < 24) : owedS c i = owedS c (i + 1) + unit1 (fwd c (far ⟨i, h⟩)) (some (.recv ⟨i, h⟩)) := by
  unfold owedS
  rw [sum_finFrom_succ h, add_assoc]
theorem owedS_end : owedS c 24 = owedA c 0 := by
  unfold owedS
  rw [sum_finFrom_self, add_zero]

/-- What the copy of chunk `i` writes on the device it reaches is what that device awaits. -/
theorem recv_pay (i : Fin 24) (fd) :
    ptsV (fwd c (far i)) (commV i) fullShare ((commV i).view.write (Elt F) fd ((xV c i).view.read (Elt F) (mx m c)) Finset.univ)
      ⊢ pay m (fwd c (far i)) 0 0 (some (some (.recv i))) := by
  show _ ⊢ recvPay m (fwd c (far i)) i
  unfold recvPay hasV xIn
  rw [bwd_fwd]
  iintro H
  iexists ((commV i).view.write (Elt F) fd ((xV c i).view.read (Elt F) (mx m c)) Finset.univ)
  isplitr; · ipureintro; exact View.read_write_univ _ _
  iexact H

theorem send_wp (P : KProg F) (i : Fin 24) (n' : Dev nD) (hn : n' = fwd c (far i)) (O : CellTallies nD τ sig Unit)
    {hsrc : (xV c i).view.WordExact} {hdst : (commV i).view.WordExact}
    {hsc : ((commV i : Memref sig (Dev.tc n' : Thread nD τ).2.kind .vmem S128x1024 .f32)).view.ref.isScScratch = false}
    {hsem : DmaTarget.Typed .hbm (.dma (semAt24 cc0_scratch2 i)) (.remote (Dev.tc n' : Thread nD τ) (commV i) (.dma (semAt24 cc0_scratch1 i)) hsc)} :
    iprop(recs m K ∗ xAt m c (rest i.val) ∗ sendNeed c i ∗ ow c (O + unit1 (fwd c (far i)) (some (.recv i))))
      ⊢ iprop(((xAt m c (rest (i.val + 1)) ∗ sendDone m c i ∗ ow c O) -∗ WP c P R)
        -∗ WP c (.op (.enqueueDma (xV c i) (.remote (Dev.tc n') (commV i) (.dma (semAt24 cc0_scratch1 i)) hsc)
            (.dma (semAt24 cc0_scratch2 i)) hsrc hdst hsem) fun _ => P) R) := by
  unfold sendNeed sendDone
  iintro ⟨#HR, Hx, ⟨Hd, Ht, Ht'⟩, HO⟩ Hk
  ihave Hx := (pointsTo_share (rest_split i.val)).1 $$ Hx
  icases Hx with ⟨Hp, Hr⟩
  ihave Hp := (src_split c main_arg0 (xV c i).view.set (piece i.val) (mx m c)).1 $$ Hp
  icases Hp with ⟨Hp, Hl⟩
  iapply (send_step m K c P R (fwd c (far i)) n' hn (.send i) (.recv i) rfl rfl (rounds_pos _) (rounds_pos _) (xV c i) (commV i)
    (credit_eq (commV i)) (credit_eq (commV i)) (piece i.val) (mx m c) (BI.Entails.refl _) (recv_pay m c i) O) $$ [Hp Hd HO Ht Ht']
  · isplitr; · iexact HR
    isplitl [Hp]; · unfold ptsV; iexact Hp
    isplitl [Hd]; · iexact Hd
    isplitl [HO]; · iexact HO
    isplitl [Ht] <;> iassumption
  iintro ⟨Hc, HO⟩
  iapply Hk
  isplitl [Hr]; · iexact Hr
  isplitl [Hc Hl]
  · isplitl [Hc] <;> iassumption
  iexact HO

/-- All the sends from the `24 - n`-th on. -/
theorem sends_wp (P : KProg F) : (n : ℕ) → (h : n ≤ 24) →
    iprop(recs m K ∗ xAt m c (rest (24 - n)) ∗ ow c (owedS c (24 - n)) ∗ (bigSep (finFrom 24 (24 - n)) fun i => sendNeed (F := F) c i)
        ∗ bigSep (finUpTo 24 (24 - n)) fun i => sendDone m c i)
      ⊢ iprop(((xAt m c (rest 24) ∗ ow c (owedA c 0) ∗ bigSep Finset.univ fun i => sendDone m c i) -∗ WP c P R)
        -∗ WP c (sends c P n h) R)
  | 0, h => by
    rw [Nat.sub_zero, owedS_end, bigSep_finFrom_self, bigSep_finUpTo_self]
    unfold sends
    iintro ⟨#HR, Hx, HO, -, Hd⟩ Hk
    iapply Hk
    isplitl [Hx]; · iexact Hx
    isplitl [HO] <;> iassumption
  | n + 1, h => by
    have hi : 24 - (n + 1) < 24 := by omega
    have he : 24 - n = 24 - (n + 1) + 1 := by omega
    have ih := sends_wp P n (by omega)
    rw [he, bigSep_finUpTo_succ hi] at ih
    unfold sends
    rw [owedS_succ c _ hi, bigSep_finFrom_succ hi]
    iintro ⟨#HR, Hx, HO, ⟨Hn, Hs⟩, Hd⟩ Hk
    iapply (send_wp m K c R (sends c P n (by omega)) ⟨24 - (n + 1), hi⟩ _ (flowDev_eq c ⟨24 - (n + 1), hi⟩) (owedS c (24 - (n + 1) + 1))) $$ [Hx Hn HO]
    · isplitr; · iexact HR
      isplitl [Hx]; · iexact Hx
      isplitl [Hn]; · iexact Hn
      iexact HO
    iintro ⟨Hx, Hn, HO⟩
    iapply ih $$ [Hx HO Hs Hd Hn]
    · isplitr; · iexact HR
      isplitl [Hx]; · iexact Hx
      isplitl [HO]; · iexact HO
      isplitl [Hs]; · iexact Hs
      isplitl [Hn] <;> iassumption
    iexact Hk

/-! ## The waits for the sends -/

/-- What the wait for send `i` needs. -/
def sentNeed (i : Fin 24) : sProp 𝕄 := iprop(sendDone m c i ∗ atPos ER (sendC c i) 0 ∅ 0)
/-- What the wait for send `i` leaves. -/
def sentDone (i : Fin 24) : sProp 𝕄 := iprop(xAt m c (piece i.val) ∗ atPos ER (sendC c i) 1 ∅ 0)

theorem sendWaits_wp (P : KProg F) : (n : ℕ) → (h : n ≤ 24) →
    iprop(recs m K ∗ ow c 0 ∗ (bigSep (finFrom 24 (24 - n)) fun i => sentNeed m c i) ∗ bigSep (finUpTo 24 (24 - n)) fun i => sentDone m c i)
      ⊢ iprop(((ow c 0 ∗ bigSep Finset.univ fun i => sentDone m c i) -∗ WP c P R) -∗ WP c (sendWaits c P n h) R)
  | 0, h => by
    rw [Nat.sub_zero, bigSep_finFrom_self, bigSep_finUpTo_self]
    unfold sendWaits
    iintro ⟨#HR, HO, -, Hd⟩ Hk
    iapply Hk
    isplitl [HO] <;> iassumption
  | n + 1, h => by
    have hi : 24 - (n + 1) < 24 := by omega
    have he : 24 - n = 24 - (n + 1) + 1 := by omega
    have ih := sendWaits_wp P n (by omega)
    rw [he, bigSep_finUpTo_succ hi] at ih
    unfold sendWaits
    rw [bigSep_finFrom_succ hi]
    iintro ⟨#HR, HO, ⟨Hn, Hs⟩, Hd⟩ Hk
    unfold sentNeed sendDone
    icases Hn with ⟨⟨Hc, Hl⟩, Hat⟩
    iapply (dma_wait m K c _ R (.send ⟨24 - (n + 1), hi⟩) 0 (rounds_pos _) rfl (hsrc := (View.wordExact_bits rfl).reshape _ _) (hdst := View.wordExact_bits rfl) (commV ⟨24 - (n + 1), hi⟩) (xV c ⟨24 - (n + 1), hi⟩)
      (credit_like (commV ⟨24 - (n + 1), hi⟩) (xV c ⟨24 - (n + 1), hi⟩)) 0 0 le_rfl (Above.zero 0)) $$ [HO Hc Hat]
    · isplitr; · iexact HR
      isplitl [Hc]; · iexact Hc
      isplitl [HO] <;> iassumption
    iintro ⟨HO, Hat, -, Hp⟩
    ihave Hp := (show pay m c 0 0 (some (some (.send ⟨24 - (n + 1), hi⟩))) ⊢
      (((c : Thread nD τ).loc main_arg0) ↦[(xV c ⟨24 - (n + 1), hi⟩).view.set]{piece (24 - (n + 1))} (mx m c) : sProp 𝕄) from BI.Entails.refl _) $$ Hp
    iapply ih $$ [HO Hs Hd Hat Hp Hl]
    · isplitr; · iexact HR
      isplitl [HO]; · iexact HO
      isplitl [Hs]; · unfold sentNeed sendDone; iexact Hs
      isplitl [Hat Hp Hl]
      · unfold sentDone
        isplitl [Hp Hl]
        · iapply (src_split c main_arg0 (xV c ⟨24 - (n + 1), hi⟩).view.set (piece (24 - (n + 1))) (mx m c)).2
          isplitl [Hp] <;> iassumption
        iexact Hat
      iexact Hd
    iexact Hk

end Cert.Mm

end
-- ==== Proof.Products.lean ====
/- The products: the own block's, then the chunks of the three flows as they land, each chunk's rows read back once its
   three products are added. -/
module

public import proofs.«01_k».proof.Proof.Loops

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

/-! ## Loads and stores -/

/-- The result's buffer at contents `f`. -/
abbrev oAt (f : OutC F) : sProp 𝕄 := ((c : Thread nD τ).loc cc0_stg0_0) ↦[Finset.univ]{fullShare} f

/-- The slot `s` of the buffer of `w` blocks, holding `W`. -/
abbrev slotHas (s : Fin 3) (W : FVec F S1024x2048 .f32) : sProp 𝕄 := hasV c (slotV s) fullShare W

theorem load_slot (s : Fin 3) (W : FVec F S1024x2048 .f32) (hl) (P : Vec F S1x1024x2048 .f32 → KProg F) :
    slotHas c s W ⊢ iprop((∀ v, ⌜shapeCast S1024x2048 v shapeCasts_S1x1024x2048_S1024x2048 = W⌝ -∗ slotHas c s W -∗ WP c (P v) R)
      -∗ WP c (.op (.load (Memref.whole cc0_scratch5) (slotR s).toLoadRect hl) P) R) := by
  unfold slotHas hasV ptsV
  iintro ⟨%f, %hf, H⟩ Hk
  have hw : (((slotV s).view.loc (c : Thread nD τ)) ↦[(slotV s).view.set]{fullShare} f : sProp 𝕄)
      ⊢ iprop(((((slotV s).view.loc (c : Thread nD τ)) ↦[(slotV s).view.set]{fullShare} f)
          -∗ WP c (P (((Memref.whole cc0_scratch5 : Memref sig .tc .vmem S3x1024x2048 .f32).access (slotR s)).read (Elt F) f)) R)
        -∗ WP c (.op (.load (Memref.whole cc0_scratch5) (slotR s).toLoadRect hl) P) R) :=
    wp_load_rect 𝒱₀ (c : Thread nD τ) none Set.univ (m := (Memref.whole cc0_scratch5 : Memref sig .tc .vmem S3x1024x2048 .f32)) (r := slotR s)
      (S := (slotV s).view.set) (f := f) (q := fullShare) (le_of_eq (View.set_reshape _ _).symm)
  iapply hw $$ H
  iintro H
  iapply Hk $$ %(((Memref.whole cc0_scratch5 : Memref sig .tc .vmem S3x1024x2048 .f32).access (slotR s)).read (Elt F) f) %hf
  iexists f; isplitr; · ipureintro; exact hf
  iexact H

theorem load_comm (i : Fin 24) (X : FVec F S128x1024 .f32) (hl) (P : Vec F S1x128x1024 .f32 → KProg F) :
    hasV c (commV i) fullShare X ⊢ iprop((∀ v, ⌜shapeCast S128x1024 v shapeCasts_S1x128x1024_S128x1024 = X⌝ -∗ hasV c (commV i) fullShare X -∗ WP c (P v) R)
      -∗ WP c (.op (.load (Memref.whole cc0_scratch0) (commR i).toLoadRect hl) P) R) := by
  unfold hasV ptsV
  iintro ⟨%f, %hf, H⟩ Hk
  have hw : (((commV i).view.loc (c : Thread nD τ)) ↦[(commV i).view.set]{fullShare} f : sProp 𝕄)
      ⊢ iprop(((((commV i).view.loc (c : Thread nD τ)) ↦[(commV i).view.set]{fullShare} f)
          -∗ WP c (P (((Memref.whole cc0_scratch0 : Memref sig .tc .vmem S3x1024x1024 .f32).access (commR i)).read (Elt F) f)) R)
        -∗ WP c (.op (.load (Memref.whole cc0_scratch0) (commR i).toLoadRect hl) P) R) :=
    wp_load_rect 𝒱₀ (c : Thread nD τ) none Set.univ (m := (Memref.whole cc0_scratch0 : Memref sig .tc .vmem S3x1024x1024 .f32)) (r := commR i)
      (S := (commV i).view.set) (f := f) (q := fullShare) (le_of_eq (View.set_reshape _ _).symm)
  iapply hw $$ H
  iintro H
  iapply Hk $$ %(((Memref.whole cc0_scratch0 : Memref sig .tc .vmem S3x1024x1024 .f32).access (commR i)).read (Elt F) f) %hf
  iexists f; isplitr; · ipureintro; exact hf
  iexact H

theorem loadRows_wp (k : Fin 8) (f : OutC F) (P : Vec F S128x2048 .f32 → KProg F) :
    oAt c f ⊢ iprop((oAt c f -∗ WP c (P (rowsRd k f)) R) -∗ WP c (loadRows oM k P) R) := by
  unfold loadRows rowsRd
  exact wp_load_rect 𝒱₀ (c : Thread nD τ) none Set.univ (m := oM) (r := rowsR k) (f := f) (Finset.subset_univ _)

theorem storeRows_wp (k : Fin 8) (f : OutC F) (v : FVec F S128x2048 .f32) (P : KProg F) :
    oAt c f ⊢ iprop((oAt c (rowsWr k f v) -∗ WP c P R) -∗ WP c (storeRows oM k v P) R) := by
  unfold storeRows rowsWr
  iintro H Hk
  iapply (wp_store 𝒱₀ (c : Thread nD τ) none Set.univ (m := oM) (r := rowsR k) (Mk := Finset.univ) (Finset.subset_univ _)) $$ H
  iexact Hk

/-! ## The products of the chunks -/

/-- The copy the `t`-th addition waits for. -/
def copyOf (t : ℕ) : Fin 24 := copyNo (fOf t) (kOf t)

/-- What the `t`-th addition needs of its chunk. -/
def landNeed (t : Fin 24) : sProp 𝕄 := iprop(cred (unit1 c (some (.recv (copyOf t.val)))) ∗ atPos ER (recvC c (copyOf t.val)) 0 ∅ 0)
/-- What it leaves of it. -/
def landDone (t : Fin 24) : sProp 𝕄 := iprop(recvPay m c (copyOf t.val) ∗ atPos ER (recvC c (copyOf t.val)) 1 ∅ 0)

/-- The three slots, holding the blocks the flows multiply by. -/
def slots : sProp 𝕄 := iprop(slotHas c 1 (wIn m c 1) ∗ slotHas c 2 (wIn m c 2) ∗ slotHas c 0 (wIn m c 3))

/-- After `n` additions. -/
def added (n : ℕ) : sProp 𝕄 :=
  iprop(oAt c (outN m c n) ∗ ow c (owedA c 0) ∗ slots m c ∗ (bigSep (finFrom 24 n) fun t => landNeed (F := F) c t) ∗ bigSep (finUpTo 24 n) fun t => landDone m c t)

theorem slots_of (f : Fin 3) : slots m c ⊢ iprop(slotHas c (flowSlot f) (wIn m c (flowW f)) ∗ (slotHas c (flowSlot f) (wIn m c (flowW f)) -∗ slots m c)) := by
  unfold slots
  match f with
  | 0 =>
    iintro ⟨H1, H2, H3⟩
    isplitl [H1]; · iexact H1
    iintro H1
    isplitl [H1]; · iexact H1
    isplitl [H2] <;> iassumption
  | 1 =>
    iintro ⟨H1, H2, H3⟩
    isplitl [H2]; · iexact H2
    iintro H2
    isplitl [H1]; · iexact H1
    isplitl [H2]; · iexact H2
    iexact H3
  | 2 =>
    iintro ⟨H1, H2, H3⟩
    isplitl [H3]; · iexact H3
    iintro H3
    isplitl [H1]; · iexact H1
    isplitl [H2]; · iexact H2
    iexact H3

/-- The `n`-th addition. -/
theorem addChunk_wp (n : ℕ) (hn : n < 24) (f : Fin 3) (k : Fin 8) (hf : f = fOf n) (hk : k = kOf n) (P : KProg F) :
    iprop(recs m K ∗ added m c n) ⊢ iprop((added m c (n + 1) -∗ WP c P R) -∗ WP c (addChunk c oM f k P) R) := by
  subst hf hk
  unfold added addChunk
  rw [bigSep_finFrom_succ hn, bigSep_finUpTo_succ hn]
  unfold landNeed landDone
  iintro ⟨#HR, Ho, HO, Hs, ⟨⟨Hc, Hat⟩, Hn⟩, Hd⟩ Hk
  iapply (dma_wait m K c _ R (.recv (copyOf n)) 0 (rounds_pos _) rfl (hsrc := View.wordExact_bits rfl) (hdst := (View.wordExact_bits rfl).reshape _ _)
    (xV c (copyOf n)) (commV (copyOf n)) (credit_eq (commV (copyOf n))) (owedA c 0) 2 le_rfl (above_owedA c 0)) $$ [HO Hc Hat]
  · isplitr; · iexact HR
    isplitl [Hc]; · iexact Hc
    isplitl [HO] <;> iassumption
  iintro ⟨HO, Hat, -, Hp⟩
  ihave Hp := (show pay m c 0 0 (some (some (.recv (copyOf n)))) ⊢ hasV c (commV (copyOf n)) fullShare (xIn m c (copyOf n)) from BI.Entails.refl _) $$ Hp
  iapply (loadRows_wp c R (kOf n) (outN m c n)) $$ Ho
  iintro Ho
  iapply (load_comm c R (copyOf n) (xIn m c (copyOf n))) $$ Hp
  iintro %v₂ %h₂ Hp
  ihave Hs := (slots_of m c (fOf n)) $$ Hs
  icases Hs with ⟨H1, Hs⟩
  iapply (load_slot c R (flowSlot (fOf n)) (wIn m c (flowW (fOf n)))) $$ H1
  iintro %v₃ %h₃ H1
  ihave Hs := Hs $$ H1
  iapply (loadRows_wp c R (kOf n) (outN m c n)) $$ Ho
  iintro Ho
  iapply (storeRows_wp c R (kOf n) (outN m c n)) $$ Ho
  iintro Ho
  rw [show k0_pay2 (rowsRd (kOf n) (outN m c n)) v₂ v₃ = mulAdd (rowsRd (kOf n) (outN m c n)) (xIn m c (copyOf n)) (wIn m c (flowW (fOf n))) by
    rw [← h₂, ← h₃]; rfl]
  iapply Hk
  isplitl [Ho]; · iexact Ho
  isplitl [HO]; · iexact HO
  isplitl [Hs]; · iexact Hs
  isplitl [Hn]; · iexact Hn
  isplitl [Hp Hat]
  · isplitl [Hp]
    · unfold recvPay; iexact Hp
    iexact Hat
  iexact Hd

/-- The three additions of a chunk, and its rows read back. -/
theorem chunk_wp (k : Fin 8) (P : Vec F S128x2048 .f32 → KProg F) :
    iprop(recs m K ∗ added m c (3 * k.val))
      ⊢ iprop((added m c (3 * k.val + 3) -∗ WP c (P (rowsRd k (outN m c (3 * k.val + 3)))) R) -∗ WP c (chunk c oM k P) R) := by
  have h0 : (0 : Fin 3) = fOf (3 * k.val) := Fin.ext (by show 0 = _; dsimp [fOf]; omega)
  have h1 : (1 : Fin 3) = fOf (3 * k.val + 1) := Fin.ext (by show 1 = _; dsimp [fOf]; omega)
  have h2 : (2 : Fin 3) = fOf (3 * k.val + 2) := Fin.ext (by show 2 = _; dsimp [fOf]; omega)
  have k0 : k = kOf (3 * k.val) := Fin.ext (by dsimp [kOf]; omega)
  have k1 : k = kOf (3 * k.val + 1) := Fin.ext (by dsimp [kOf]; omega)
  have k2 : k = kOf (3 * k.val + 2) := Fin.ext (by dsimp [kOf]; omega)
  unfold chunk
  iintro ⟨#HR, H⟩ Hk
  iapply (addChunk_wp m K c R (3 * k.val) (by omega) 0 k h0 k0) $$ [H]
  · isplitr <;> iassumption
  iintro H
  iapply (addChunk_wp m K c R (3 * k.val + 1) (by omega) 1 k h1 k1) $$ [H]
  · isplitr <;> iassumption
  iintro H
  iapply (addChunk_wp m K c R (3 * k.val + 2) (by omega) 2 k h2 k2) $$ [H]
  · isplitr <;> iassumption
  iintro H
  unfold added
  icases H with ⟨Ho, H⟩
  iapply (loadRows_wp c R k (outN m c (3 * k.val + 3))) $$ Ho
  iintro Ho
  iapply Hk
  isplitl [Ho] <;> iassumption

theorem chunks_wp (P : F .f32 → KProg F) : (n : ℕ) → (h : n ≤ 7) →
    iprop(recs m K ∗ added m c (3 * (8 - n))) ⊢ iprop((added m c 24 -∗ WP c (P (amaxN m c 7)) R) -∗ WP c (chunks c oM P n h (amaxN m c (7 - n))) R)
  | 0, h => by
    unfold chunks
    iintro ⟨#HR, H⟩ Hk
    iapply Hk; iexact H
  | n + 1, h => by
    have ih := chunks_wp P n (by omega)
    obtain ⟨j, hj⟩ : ∃ j, j + n = 6 := ⟨6 - n, by omega⟩
    have e0 : 8 - (n + 1) = j + 1 := by omega
    have e1 : 7 - (n + 1) = j := by omega
    have e2 : 7 - n = j + 1 := by omega
    have e3 : 8 - n = j + 1 + 1 := by omega
    have hk : (⟨8 - (n + 1), by omega⟩ : Fin 8) = kOf (3 * (j + 1)) := Fin.ext (by dsimp [kOf]; omega)
    have hv : (kOf (3 * (j + 1))).val = j + 1 := by dsimp [kOf]; omega
    rw [e2, e3] at ih
    unfold chunks
    rw [e1, hk, e0]
    have hc := chunk_wp m K c R (kOf (3 * (j + 1))) fun v => chunks c oM P n (by omega) (Scalar.maximumf (amaxN m c j) (k0_pay8 v))
    rw [hv] at hc
    iintro ⟨#HR, H⟩ Hk
    iapply hc $$ [H]
    · isplitr <;> iassumption
    iintro H
    iapply ih $$ [H]
    · isplitr <;> iassumption
    iexact Hk

/-- All the products: the running maximum of the whole result is handed on. -/
theorem products_wp :
    iprop(recs m K ∗ added m c 0) ⊢ iprop((added m c 24 -∗ WP c (exchange c oM (amaxN m c 7)) R) -∗ WP c (products c oM) R) := by
  unfold products
  iintro ⟨#HR, H⟩ Hk
  iapply (chunk_wp m K c R 0) $$ [H]
  · isplitr <;> iassumption
  iintro H
  iapply (chunks_wp m K c R (exchange c oM) 7 le_rfl) $$ [H]
  · isplitr <;> iassumption
  iexact Hk

end Cert.Mm

end
-- ==== Proof.Own.lean ====
/- The loads of the own blocks and their product. -/
module

public import proofs.«01_k».proof.Proof.Products

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

/-- Device `c`'s copy of `w`, held whole at a share. -/
abbrev wAt (q : PosShare TreeShare) : sProp 𝕄 := ((c : Thread nD τ).loc main_arg1) ↦[Finset.univ]{q} (mw m c)

/-- A load of row block `j` of `w` into slot `s` under way. -/
def wFlight (j : Fin 4) (s : Fin 3) : sProp 𝕄 :=
  iprop(cred (unit1 c (some (.w s))) ∗ ((c : Thread nD τ).loc main_arg1) ↦[Finset.univ \ (wV c j).view.set]{piece j.val} (mw m c))

theorem hasV_any {sp : Space} {s : Shape} (v : Memref sig .tc sp s .f32) (X : FVec F s .f32) : hasV c v fullShare X ⊢ anyV (F := F) c v := by
  unfold hasV anyV
  iintro ⟨%f, -, H⟩
  iexists f; iexact H

theorem wCopy_wp (j : Fin 4) (s : Fin 3) (r : ℕ) (hr : r < rounds (some (.w s))) (hj : wJ s r = j) (P : KProg F) :
    iprop(recs m K ∗ reached ER (wC c s) r ∗ wAt m c (rest j.val) ∗ anyV (F := F) c (slotV s) ∗ dutyTok ER (wC c s) r 0)
      ⊢ iprop(((wAt m c (rest (j.val + 1)) ∗ wFlight m c j s) -∗ WP c P R) -∗ WP c (wCopy c j s P) R) := by
  unfold wFlight wCopy
  iintro ⟨#HR, #Hr, Hw, Hd, Ht⟩ Hk
  ihave Hw := (pointsTo_share (rest_split j.val)).1 $$ Hw
  icases Hw with ⟨Hp, Hw⟩
  ihave Hp := (src_split c main_arg1 (wV c j).view.set (piece j.val) (mw m c)).1 $$ Hp
  icases Hp with ⟨Hp, Hl⟩
  iapply (copy_step m K c _ R (.w s) r hr rfl (hsrc := View.wordExact_bits rfl) (hdst := (View.wordExact_bits rfl).reshape _ _)
    (wV c j) (slotV s) (credit_eq (slotV s)) (piece j.val) (mw m c)
    (show _ ⊢ wPay m c s (wJ s r) by rw [hj]; exact BI.Entails.refl _)) $$ [Hp Hd Ht]
  · isplitr; · iexact HR
    isplitr; · iexact Hr
    isplitl [Hp]; · unfold ptsV; iexact Hp
    isplitl [Hd] <;> iassumption
  iintro Hc
  iapply Hk
  isplitl [Hw]; · iexact Hw
  isplitl [Hc] <;> iassumption

theorem wWait_wp (j : Fin 4) (s : Fin 3) (r : ℕ) (hr : r < rounds (some (.w s))) (hj : wJ s r = j) (P : KProg F) :
    iprop(recs m K ∗ wFlight m c j s ∗ ow c (owedA c 0) ∗ atPos ER (wC c s) r ∅ 0)
      ⊢ iprop(((ow c (owedA c 0) ∗ atPos ER (wC c s) (r + 1) ∅ 0 ∗ reached ER (wC c s) (r + 1) ∗ wAt m c (piece j.val) ∗ slotHas c s (wIn m c j)) -∗ WP c P R)
        -∗ WP c (wWait c j s P) R) := by
  unfold wFlight wWait
  iintro ⟨#HR, ⟨Hc, Hl⟩, HO, Hat⟩ Hk
  iapply (dma_wait m K c _ R (.w s) r hr rfl (hsrc := View.wordExact_bits rfl) (hdst := (View.wordExact_bits rfl).reshape _ _)
    (wV c j) (slotV s) (credit_eq (slotV s)) (owedA c 0) 2 (Nat.zero_le 2) (above_owedA c 0)) $$ [HO Hc Hat]
  · isplitr; · iexact HR
    isplitl [Hc]; · iexact Hc
    isplitl [HO] <;> iassumption
  iintro ⟨HO, Hat, Hr, Hp⟩
  ihave Hp := (show pay m c r 0 (some (some (.w s))) ⊢ iprop(slotHas c s (wIn m c j) ∗ ((c : Thread nD τ).loc main_arg1) ↦[(wV c j).view.set]{piece j.val} (mw m c)) by
    rw [← hj]; exact BI.Entails.refl _) $$ Hp
  icases Hp with ⟨Hs, Hp⟩
  iapply Hk
  isplitl [HO]; · iexact HO
  isplitl [Hat]; · iexact Hat
  isplitl [Hr]; · iexact Hr
  isplitl [Hp Hl]
  · iapply (src_split c main_arg1 (wV c j).view.set (piece j.val) (mw m c)).2
    isplitl [Hp] <;> iassumption
  iexact Hs

/-- The four pieces of `w` and the rest, joined. -/
theorem w_join :
    iprop(wAt m c (piece 0) ∗ wAt m c (piece 1) ∗ wAt m c (piece 2) ∗ wAt m c (piece 3) ∗ wAt m c (rest 4)) ⊢ wAt m c fullShare := by
  iintro ⟨H0, H1, H2, H3, H4⟩
  iapply (pointsTo_share (rest_split 0)).2
  isplitl [H0]; · iexact H0
  iapply (pointsTo_share (rest_split 1)).2
  isplitl [H1]; · iexact H1
  iapply (pointsTo_share (rest_split 2)).2
  isplitl [H2]; · iexact H2
  iapply (pointsTo_share (rest_split 3)).2
  isplitl [H3]; · iexact H3
  iexact H4

/-- The buffer of the own block of `x`. -/
abbrev xoM : Memref sig .tc .vmem S1024x1024 .f32 := Memref.whole cc0_scratch3

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

theorem load_xo (X : FVec F S1024x1024 .f32) (hl) (P : Vec F S1024x1024 .f32 → KProg F) :
    hasV c xoM fullShare X ⊢ iprop((hasV c xoM fullShare X -∗ WP c (P X) R)
      -∗ WP c (.op (.load xoM (Rect.unit (s := S1024x1024) ![0, 0] S1024x1024.size inb_S1024x1024_S1024x1024_0_0).toLoadRect hl) P) R) := by
  unfold hasV ptsV
  iintro ⟨%f, %hf, H⟩ Hk
  have hf' : f = X := hf
  iapply (wp_load 𝒱₀ (c : Thread nD τ) none Set.univ (m := xoM) (S := xoM.view.set) (by rw [show xoM.view.set = Finset.univ from View.set_whole _]; exact Finset.subset_univ _)) $$ H
  iintro H
  rw [show xoM.view.readAt (Elt F) (Rect.unit (s := S1024x1024) ![0, 0] S1024x1024.size inb_S1024x1024_S1024x1024_0_0).toLoadRect f = X from
    (Memref.readAt_unit_zero (Elt F) cc0_scratch3 hz2 _ f).trans hf']
  iapply Hk
  iexists f; isplitr; · ipureintro; exact hf
  iexact H

theorem load_o (f : OutC F) (hl) (P : Vec F S1024x2048 .f32 → KProg F) :
    oAt c f ⊢ iprop((oAt c f -∗ WP c (P f) R)
      -∗ WP c (.op (.load oM (Rect.unit (s := S1024x2048) ![0, 0] S1024x2048.size inb_S1024x2048_S1024x2048_0_0).toLoadRect hl) P) R) := by
  iintro H Hk
  iapply (wp_load 𝒱₀ (c : Thread nD τ) none Set.univ (m := oM) (Finset.subset_univ _)) $$ H
  iintro H
  rw [show oM.view.readAt (Elt F) (Rect.unit (s := S1024x2048) ![0, 0] S1024x2048.size inb_S1024x2048_S1024x2048_0_0).toLoadRect f = f from
    Memref.readAt_unit_zero (Elt F) cc0_stg0_0 hz2 _ f]
  iapply Hk; iexact H

theorem store_o (f v : OutC F) (hx) (hm) (P : KProg F) :
    oAt c f ⊢ iprop((oAt c v -∗ WP c P R)
      -∗ WP c (.op (.store oM (Rect.unit (s := S1024x2048) ![0, 0] S1024x2048.size inb_S1024x2048_S1024x2048_0_0) v Finset.univ hx hm) fun _ => P) R) := by
  iintro H Hk
  iapply (wp_store 𝒱₀ (c : Thread nD τ) none Set.univ (m := oM) (r := Rect.unit (s := S1024x2048) ![0, 0] S1024x2048.size inb_S1024x2048_S1024x2048_0_0) (Mk := Finset.univ) (Finset.subset_univ _)) $$ H
  iintro H
  rw [show (oM.access (Rect.unit (s := S1024x2048) ![0, 0] S1024x2048.size inb_S1024x2048_S1024x2048_0_0)).write (Elt F) f v Finset.univ = v from
    Memref.write_access_unit_zero_univ (Elt F) cc0_stg0_0 hz2 _ f v]
  iapply Hk; iexact H

/-- The tokens and positions the own loads use. -/
def ownNeed : sProp 𝕄 :=
  iprop(dutyTok ER (xC c) 0 0 ∗ atPos ER (xC c) 0 ∅ 0
    ∗ dutyTok ER (wC c 0) 0 0 ∗ dutyTok ER (wC c 0) 1 0 ∗ atPos ER (wC c 0) 0 ∅ 0
    ∗ dutyTok ER (wC c 1) 0 0 ∗ atPos ER (wC c 1) 0 ∅ 0
    ∗ dutyTok ER (wC c 2) 0 0 ∗ atPos ER (wC c 2) 0 ∅ 0)
/-- The positions they leave. -/
def ownDone : sProp 𝕄 := iprop(atPos ER (xC c) 1 ∅ 0 ∗ atPos ER (wC c 0) 2 ∅ 0 ∗ atPos ER (wC c 1) 1 ∅ 0 ∗ atPos ER (wC c 2) 1 ∅ 0)

theorem own_wp (f : OutC F) :
    iprop(recs m K ∗ xAt m c (rest 24) ∗ wAt m c fullShare ∗ anyV (F := F) c xoM ∗ anyV (F := F) c (slotV 0) ∗ anyV (F := F) c (slotV 1) ∗ anyV (F := F) c (slotV 2)
        ∗ oAt c f ∗ ow c (owedA c 0) ∗ ownNeed (F := F) c ∗ bigSep Finset.univ fun t => landNeed (F := F) c t)
      ⊢ iprop(((xAt m c (rest 24) ∗ wAt m c fullShare ∗ anyV (F := F) c xoM ∗ ownDone (F := F) c ∗ added m c 24) -∗ WP c (exchange c oM (amaxN m c 7)) R)
        -∗ WP c (own c oM) R) := by
  unfold own ownNeed ownDone
  iintro ⟨#HR, Hx, Hw, Hxo, Hs0, Hs1, Hs2, Ho, HO, ⟨Htx, Hax, Ht0, Ht0', Ha0, Ht1, Ha1, Ht2, Ha2⟩, Hland⟩ Hk
  ihave Hx := (pointsTo_share (rest_split 24)).1 $$ Hx
  icases Hx with ⟨Hp, Hx⟩
  ihave Hp := (src_split c main_arg0 (xOwnV c).view.set (piece 24) (mx m c)).1 $$ Hp
  icases Hp with ⟨Hp, Hl⟩
  iapply (copy_step m K c _ R .x 0 (rounds_pos _) rfl (hsrc := View.wordExact_bits rfl) (hdst := (Memref.isWhole_whole _).wordExact)
    (xOwnV c) xoM (credit_eq xoM) (piece 24) (mx m c) (show _ ⊢ xPay m c from BI.Entails.refl _)) $$ [Hp Hxo Htx]
  · isplitr; · iexact HR
    isplitr; · iapply (recs_reached m K (c, some .x)); iexact HR
    isplitl [Hp]; · unfold ptsV; iexact Hp
    isplitl [Hxo] <;> iassumption
  iintro Hcx
  iapply (wCopy_wp m K c R 0 0 0 (rounds_pos _) rfl) $$ [Hw Hs0 Ht0]
  · isplitr; · iexact HR
    isplitr; · iapply (recs_reached m K (c, some (.w 0))); iexact HR
    isplitl [Hw]; · iexact Hw
    isplitl [Hs0] <;> iassumption
  iintro ⟨Hw, Hf0⟩
  iapply (wCopy_wp m K c R 1 1 0 (rounds_pos _) rfl) $$ [Hw Hs1 Ht1]
  · isplitr; · iexact HR
    isplitr; · iapply (recs_reached m K (c, some (.w 1))); iexact HR
    isplitl [Hw]; · iexact Hw
    isplitl [Hs1] <;> iassumption
  iintro ⟨Hw, Hf1⟩
  iapply (wCopy_wp m K c R 2 2 0 (rounds_pos _) rfl) $$ [Hw Hs2 Ht2]
  · isplitr; · iexact HR
    isplitr; · iapply (recs_reached m K (c, some (.w 2))); iexact HR
    isplitl [Hw]; · iexact Hw
    isplitl [Hs2] <;> iassumption
  iintro ⟨Hw, Hf2⟩
  iapply (dma_wait m K c _ R .x 0 (rounds_pos _) rfl (hsrc := View.wordExact_bits rfl) (hdst := (Memref.isWhole_whole _).wordExact)
    (xOwnV c) xoM (credit_eq xoM) (owedA c 0) 2 (by decide) (above_owedA c 0)) $$ [HO Hcx Hax]
  · isplitr; · iexact HR
    isplitl [Hcx]; · iexact Hcx
    isplitl [HO] <;> iassumption
  iintro ⟨HO, Hax, -, Hp⟩
  ihave Hp := (show pay m c 0 0 (some (some .x)) ⊢ iprop(hasV c xoM fullShare (xOwn m c) ∗ ((c : Thread nD τ).loc main_arg0) ↦[(xOwnV c).view.set]{piece 24} (mx m c))
    from BI.Entails.refl _) $$ Hp
  icases Hp with ⟨Hxo, Hp⟩
  ihave Hp := (src_split c main_arg0 (xOwnV c).view.set (piece 24) (mx m c)).2 $$ [Hp Hl]
  · isplitl [Hp] <;> iassumption
  ihave Hx := (pointsTo_share (rest_split 24)).2 $$ [Hp Hx]
  · isplitl [Hp] <;> iassumption
  iapply (wWait_wp m K c R 0 0 0 (rounds_pos _) rfl) $$ [Hf0 HO Ha0]
  · isplitr; · iexact HR
    isplitl [Hf0]; · iexact Hf0
    isplitl [HO] <;> iassumption
  iintro ⟨HO, Ha0, #Hr0, Hw0, Hs0⟩
  iapply (load_xo c R (xOwn m c)) $$ Hxo
  iintro Hxo
  iapply (load_slot c R 0 (wIn m c 0)) $$ Hs0
  iintro %v₂ %h₂ Hs0
  iapply (load_o c R f) $$ Ho
  iintro Ho
  iapply (store_o c R f) $$ Ho
  iintro Ho
  rw [show (k0_pay1 (xOwn m c) v₂ : OutC F) = outN m c 0 by unfold outN; rw [← h₂]; rfl]
  ihave Hs0 := (hasV_any c (slotV 0) (wIn m c 0)) $$ Hs0
  iapply (wCopy_wp m K c R 3 0 1 (by decide) rfl) $$ [Hw Hs0 Ht0']
  · isplitr; · iexact HR
    isplitr; · iexact Hr0
    isplitl [Hw]; · iexact Hw
    isplitl [Hs0] <;> iassumption
  iintro ⟨Hw, Hf3⟩
  iapply (wWait_wp m K c R 1 1 0 (rounds_pos _) rfl) $$ [Hf1 HO Ha1]
  · isplitr; · iexact HR
    isplitl [Hf1]; · iexact Hf1
    isplitl [HO] <;> iassumption
  iintro ⟨HO, Ha1, -, Hw1, Hs1⟩
  iapply (wWait_wp m K c R 2 2 0 (rounds_pos _) rfl) $$ [Hf2 HO Ha2]
  · isplitr; · iexact HR
    isplitl [Hf2]; · iexact Hf2
    isplitl [HO] <;> iassumption
  iintro ⟨HO, Ha2, -, Hw2, Hs2⟩
  iapply (wWait_wp m K c R 3 0 1 (by decide) rfl) $$ [Hf3 HO Ha0]
  · isplitr; · iexact HR
    isplitl [Hf3]; · iexact Hf3
    isplitl [HO] <;> iassumption
  iintro ⟨HO, Ha0, -, Hw3, Hs0⟩
  iapply (products_wp m K c R) $$ [Ho HO Hs0 Hs1 Hs2 Hland]
  · isplitr; · iexact HR
    unfold added slots
    rw [bigSep_finFrom_zero, bigSep_finUpTo_zero]
    isplitl [Ho]; · iexact Ho
    isplitl [HO]; · iexact HO
    isplitl [Hs0 Hs1 Hs2]
    · isplitl [Hs1]; · iexact Hs1
      isplitl [Hs2]; · iexact Hs2
      iexact Hs0
    isplitl [Hland]; · iexact Hland
    iempintro
  iintro Ha
  iapply Hk
  isplitl [Hx]; · iexact Hx
  isplitl [Hw Hw0 Hw1 Hw2 Hw3]
  · iapply (w_join m c)
    isplitl [Hw0]; · iexact Hw0
    isplitl [Hw1]; · iexact Hw1
    isplitl [Hw2]; · iexact Hw2
    isplitl [Hw3]; · iexact Hw3
    iexact Hw
  isplitl [Hxo]; · iapply (hasV_any c xoM (xOwn m c)); iexact Hxo
  isplitl [Hax Ha0 Ha1 Ha2]
  · isplitl [Hax]; · iexact Hax
    isplitl [Ha0]; · iexact Ha0
    isplitl [Ha1] <;> iassumption
  iexact Ha

end Cert.Mm

end
-- ==== Proof.Exchange.lean ====
/- The exchange of the maxima, and what follows it. -/
module

public import proofs.«01_k».proof.Proof.Own

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

theorem ofEq {P Q : sProp 𝕄} (h : P = Q) : P ⊢ Q := h ▸ BI.Entails.refl _

theorem bigSep_three (Φ : Fin 3 → sProp 𝕄) : bigSep Finset.univ Φ = iprop(Φ 0 ∗ Φ 1 ∗ Φ 2) := by
  rw [BI.bigSep_univ_eq_bigSepL [0, 1, 2] (by decide) (by decide)]; rfl
theorem bigSep_four (Φ : Fin 4 → sProp 𝕄) : bigSep Finset.univ Φ = iprop(Φ 0 ∗ Φ 1 ∗ Φ 2 ∗ Φ 3) := by
  rw [BI.bigSep_univ_eq_bigSepL [0, 1, 2, 3] (by decide) (by decide)]; rfl

/-! ## The maximum sent -/

/-- What the send of the maximum to the `j`-th other device needs. -/
def amaxNeed (j : Fin 3) : sProp 𝕄 :=
  iprop(anyV (F := F) (fwd c j) (amaxV j.succ) ∗ dutyTok ER (asendC c j) 0 0 ∗ dutyTok ER (arecvC (fwd c j) j) 0 0)

theorem owedA_succ (j : Fin 3) : owedA c j.val = owedA c (j.val + 1) + unit1 (fwd c j) (some (.arecv j)) := by
  unfold owedA
  exact sum_finFrom_succ j.isLt _
theorem owedA_end : owedA c 3 = 0 := by unfold owedA; exact sum_finFrom_self _

/-- What slot `d` of the buffer of maxima holds. -/
theorem amaxC_at (d : Fin 4) (x : S4x8x128.Idx) (hx : x ∈ (amaxV d).view.set) : amaxC m c x = amaxN m (amaxOf c d) 7 := by
  unfold amaxC
  rw [show x 0 = d from Fin.ext ((mem_amaxV d x).mp hx)]

theorem amax_pay (j : Fin 3) (fd) :
    ptsV (fwd c j) (amaxV j.succ) fullShare ((amaxV j.succ).view.write (Elt F) fd ((amaxV 0).view.read (Elt F) (amaxC m c)) Finset.univ)
      ⊢ pay m (fwd c j) 0 0 (some (some (.arecv j))) := by
  refine (?_ : _ ⊢ ptsV (fwd c j) (amaxV j.succ) fullShare (amaxC m (fwd c j)))
  unfold ptsV
  refine ofEq (pointsTo_congr fun i hi => ?_)
  obtain ⟨y, -, rfl⟩ := Finset.mem_map.mp hi
  refine ((View.write_emb_of_mem _ _ (Finset.mem_univ y)).trans (cast_eq _ _)).trans ?_
  refine (amaxC_at m c 0 ((amaxV 0).view.emb y) (Finset.mem_map_of_mem _ (Finset.mem_univ y))).trans ?_
  refine (?_ : _ = amaxN m (amaxOf (fwd c j) j.succ) 7).trans (amaxC_at m (fwd c j) j.succ ((amaxV j.succ).view.emb y) (Finset.mem_map_of_mem _ (Finset.mem_univ y))).symm
  rw [amaxOf_zero, amaxOf_succ]

theorem amaxSend_wp (j : Fin 3) (P : KProg F) :
    iprop(recs m K ∗ ptsV c (amaxV 0) (rest j.val) (amaxC m c) ∗ amaxNeed (F := F) c j ∗ ow c (owedA c j.val))
      ⊢ iprop(((ptsV c (amaxV 0) (rest (j.val + 1)) (amaxC m c) ∗ cred (unit1 c (some (.asend j))) ∗ ow c (owedA c (j.val + 1))) -∗ WP c P R)
        -∗ WP c (amaxSend c j P) R) := by
  unfold amaxNeed amaxSend
  rw [owedA_succ c j]
  iintro ⟨#HR, Hx, ⟨Hd, Ht, Ht'⟩, HO⟩ Hk
  ihave Hx := (show (ptsV c (amaxV 0) (rest j.val) (amaxC m c) : sProp 𝕄) ⊢ iprop(ptsV c (amaxV 0) (piece j.val) (amaxC m c) ∗ ptsV c (amaxV 0) (rest (j.val + 1)) (amaxC m c))
    from (pointsTo_share (rest_split j.val)).1) $$ Hx
  icases Hx with ⟨Hp, Hr⟩
  iapply (send_step m K c P R (fwd c j) (amaxDev c j) (amaxDev_eq c j) (.asend j) (.arecv j) rfl rfl (rounds_pos _) (rounds_pos _) (amaxV 0) (amaxV j.succ)
    (credit_eq (amaxV j.succ)) (credit_eq (amaxV j.succ)) (piece j.val) (amaxC m c) (BI.Entails.refl _) (amax_pay m c j) (owedA c (j.val + 1))) $$ [Hp Hd HO Ht Ht']
  · isplitr; · iexact HR
    isplitl [Hp]; · iexact Hp
    isplitl [Hd]; · iexact Hd
    isplitl [HO]; · iexact HO
    isplitl [Ht] <;> iassumption
  iintro ⟨Hc, HO⟩
  iapply Hk
  isplitl [Hr]; · iexact Hr
  isplitl [Hc] <;> iassumption

/-- What the wait for the `j`-th maximum needs. -/
def gotNeed (j : Fin 3) : sProp 𝕄 := iprop(cred (unit1 c (some (.arecv j))) ∗ atPos ER (arecvC c j) 0 ∅ 0)

theorem amaxWait_wp (j : Fin 3) (P : KProg F) :
    iprop(recs m K ∗ ow c 0 ∗ gotNeed (F := F) c j)
      ⊢ iprop(((ow c 0 ∗ atPos ER (arecvC c j) 1 ∅ 0 ∗ ptsV c (amaxV j.succ) fullShare (amaxC m c)) -∗ WP c P R) -∗ WP c (amaxWait j P) R) := by
  unfold gotNeed amaxWait
  iintro ⟨#HR, HO, Hc, Hat⟩ Hk
  iapply (dma_wait m K c _ R (.arecv j) 0 (rounds_pos _) rfl (hsrc := (View.wordExact_bits rfl).reshape _ _) (hdst := (View.wordExact_bits rfl).reshape _ _)
    (amaxV 0) (amaxV j.succ) (credit_eq (amaxV j.succ)) 0 3 le_rfl (Above.zero 3)) $$ [HO Hc Hat]
  · isplitr; · iexact HR
    isplitl [Hc]; · iexact Hc
    isplitl [HO] <;> iassumption
  iintro ⟨HO, Hat, -, Hp⟩
  ihave Hp := (show pay m c 0 0 (some (some (.arecv j))) ⊢ (ptsV c (amaxV j.succ) fullShare (amaxC m c) : sProp 𝕄) from BI.Entails.refl _) $$ Hp
  iapply Hk
  isplitl [HO]; · iexact HO
  isplitl [Hat]; · iexact Hat
  iexact Hp

theorem amaxSendWait_wp (j : Fin 3) (P : KProg F) :
    iprop(recs m K ∗ ow c 0 ∗ cred (unit1 c (some (.asend j))) ∗ atPos ER (asendC c j) 0 ∅ 0)
      ⊢ iprop(((ow c 0 ∗ atPos ER (asendC c j) 1 ∅ 0 ∗ ptsV c (amaxV 0) (piece j.val) (amaxC m c)) -∗ WP c P R) -∗ WP c (amaxSendWait j P) R) := by
  unfold amaxSendWait
  iintro ⟨#HR, HO, Hc, Hat⟩ Hk
  iapply (dma_wait m K c _ R (.asend j) 0 (rounds_pos _) rfl (hsrc := (View.wordExact_bits rfl).reshape _ _) (hdst := (View.wordExact_bits rfl).reshape _ _)
    (amaxV j.succ) (amaxV 0) (credit_like (amaxV j.succ) (amaxV 0)) 0 0 le_rfl (Above.zero 0)) $$ [HO Hc Hat]
  · isplitr; · iexact HR
    isplitl [Hc]; · iexact Hc
    isplitl [HO] <;> iassumption
  iintro ⟨HO, Hat, -, Hp⟩
  ihave Hp := (show pay m c 0 0 (some (some (.asend j))) ⊢ (ptsV c (amaxV 0) (piece j.val) (amaxC m c) : sProp 𝕄) from BI.Entails.refl _) $$ Hp
  iapply Hk
  isplitl [HO]; · iexact HO
  isplitl [Hat]; · iexact Hat
  iexact Hp

/-! ## The quantised chunks -/

theorem quants_wp (P : KProg F) : (n : ℕ) → (h : n ≤ 8) →
    oAt c (quantN m c (8 - n)) ⊢ iprop((oAt c (outAt m c) -∗ WP c P R) -∗ WP c (quants oM (amaxC m c) P n h) R)
  | 0, h => by
    unfold quants outAt
    iintro Ho Hk
    iapply Hk; iexact Ho
  | n + 1, h => by
    have ih := quants_wp P n (by omega)
    have hk : (⟨8 - (n + 1), by omega⟩ : Fin 8) = kOf (3 * (8 - (n + 1))) := Fin.ext (by dsimp [kOf]; omega)
    have he : 8 - n = 8 - (n + 1) + 1 := by omega
    unfold quants
    rw [hk]
    rw [he] at ih
    unfold quantN at ih
    iintro Ho Hk
    iapply (loadRows_wp c R) $$ Ho
    iintro Ho
    iapply (loadRows_wp c R) $$ Ho
    iintro Ho
    iapply (storeRows_wp c R) $$ Ho
    iintro Ho
    iapply ih $$ Ho
    iexact Hk

/-! ## The tail -/

/-- The buffer of maxima of device `c`, held at a share through slot `d`. -/
abbrev gAt (d : Fin 4) (q : PosShare TreeShare) : sProp 𝕄 := ptsV c (amaxV d) q (amaxC m c)

theorem gAll (q : PosShare TreeShare) :
    iprop(gAt m c 0 q ∗ gAt m c 1 q ∗ gAt m c 2 q ∗ gAt m c 3 q) = (((c : Thread nD τ).loc cc0_scratch7) ↦[Finset.univ]{q} (amaxC m c) : sProp 𝕄) := by
  rw [parts c cc0_scratch7 (fun d : Fin 4 => (amaxV d).view.set) amax_cov amax_dis q (amaxC m c), bigSep_four]
  rfl

/-- A slot held whole holds the last share and what remains. -/
theorem g_split (d : Fin 4) : gAt m c d fullShare ⊢ iprop(gAt m c d (rest 3) ∗ gAt m c d (piece 0) ∗ gAt m c d (piece 1) ∗ gAt m c d (piece 2)) := by
  have h0 : gAt m c d fullShare ⊢ iprop(gAt m c d (piece 0) ∗ gAt m c d (rest 1)) := (pointsTo_share (rest_split 0)).1
  have h1 : gAt m c d (rest 1) ⊢ iprop(gAt m c d (piece 1) ∗ gAt m c d (rest 2)) := (pointsTo_share (rest_split 1)).1
  have h2 : gAt m c d (rest 2) ⊢ iprop(gAt m c d (piece 2) ∗ gAt m c d (rest 3)) := (pointsTo_share (rest_split 2)).1
  iintro H
  ihave H := h0 $$ H
  icases H with ⟨H0, H⟩
  ihave H := h1 $$ H
  icases H with ⟨H1, H⟩
  ihave H := h2 $$ H
  icases H with ⟨H2, H⟩
  isplitl [H]; · iexact H
  isplitl [H0]; · iexact H0
  isplitl [H1] <;> iassumption

theorem g_join (d : Fin 4) : iprop(gAt m c d (rest 3) ∗ gAt m c d (piece 0) ∗ gAt m c d (piece 1) ∗ gAt m c d (piece 2)) ⊢ gAt m c d fullShare := by
  have h0 : iprop(gAt m c d (piece 0) ∗ gAt m c d (rest 1)) ⊢ gAt m c d fullShare := (pointsTo_share (rest_split 0)).2
  have h1 : iprop(gAt m c d (piece 1) ∗ gAt m c d (rest 2)) ⊢ gAt m c d (rest 1) := (pointsTo_share (rest_split 1)).2
  have h2 : iprop(gAt m c d (piece 2) ∗ gAt m c d (rest 3)) ⊢ gAt m c d (rest 2) := (pointsTo_share (rest_split 2)).2
  iintro ⟨H, H0, H1, H2⟩
  iapply h0; isplitl [H0]; · iexact H0
  iapply h1; isplitl [H1]; · iexact H1
  iapply h2; isplitl [H2] <;> iassumption

/-- The buffer of maxima of device `c`, whole. -/
abbrev gM : Memref sig .tc .vmem S4x8x128 .f32 := Memref.whole cc0_scratch7

theorem load_g (hl) (P : Vec F S4x8x128 .f32 → KProg F) :
    (((c : Thread nD τ).loc cc0_scratch7) ↦[Finset.univ]{rest 3} (amaxC m c) : sProp 𝕄)
      ⊢ iprop((((((c : Thread nD τ).loc cc0_scratch7) ↦[Finset.univ]{rest 3} (amaxC m c)) : sProp 𝕄) -∗ WP c (P (amaxC m c)) R)
      -∗ WP c (.op (.load gM (Rect.unit (s := S4x8x128) ![0, 0, 0] S4x8x128.size inb_S4x8x128_S4x8x128_0_0_0).toLoadRect hl) P) R) := by
  iintro H Hk
  iapply (wp_load 𝒱₀ (c : Thread nD τ) none Set.univ (m := gM) (Finset.subset_univ _)) $$ H
  iintro H
  rw [show gM.view.readAt (Elt F) (Rect.unit (s := S4x8x128) ![0, 0, 0] S4x8x128.size inb_S4x8x128_S4x8x128_0_0_0).toLoadRect (amaxC m c) = amaxC m c from
    Memref.readAt_unit_zero (Elt F) cc0_scratch7 hz3 _ (amaxC m c)]
  iapply Hk; iexact H

/-- What is held once the maxima are in. -/
def tailNeed : sProp 𝕄 :=
  iprop(gAt m c 0 (rest 3) ∗ gAt m c 1 fullShare ∗ gAt m c 2 fullShare ∗ gAt m c 3 fullShare
    ∗ (cred (unit1 c (some (.asend 0))) ∗ atPos ER (asendC c 0) 0 ∅ 0) ∗ (cred (unit1 c (some (.asend 1))) ∗ atPos ER (asendC c 1) 0 ∅ 0)
    ∗ (cred (unit1 c (some (.asend 2))) ∗ atPos ER (asendC c 2) 0 ∅ 0))
/-- What is left of it at the end. -/
def tailDone : sProp 𝕄 :=
  iprop((((c : Thread nD τ).loc cc0_scratch7) ↦[Finset.univ]{fullShare} (amaxC m c)) ∗ atPos ER (asendC c 0) 1 ∅ 0 ∗ atPos ER (asendC c 1) 1 ∅ 0 ∗ atPos ER (asendC c 2) 1 ∅ 0)

theorem tail_wp :
    iprop(recs m K ∗ ow c 0 ∗ oAt c (outN m c 24) ∗ tailNeed m c ∗ bigSep Finset.univ fun i => sentNeed m c i)
      ⊢ iprop(((ow c 0 ∗ oAt c (outAt m c) ∗ tailDone m c ∗ bigSep Finset.univ fun i => sentDone m c i) -∗ WP c (.ret ⟨⟩) R)
        -∗ WP c (tail c oM) R) := by
  unfold tail tailNeed tailDone
  iintro ⟨#HR, HO, Ho, ⟨H0, H1, H2, H3, ⟨Hc0, Ha0⟩, ⟨Hc1, Ha1⟩, ⟨Hc2, Ha2⟩⟩, Hn⟩ Hk
  ihave H1 := (g_split m c 1) $$ H1
  icases H1 with ⟨H1, H1'⟩
  ihave H2 := (g_split m c 2) $$ H2
  icases H2 with ⟨H2, H2'⟩
  ihave H3 := (g_split m c 3) $$ H3
  icases H3 with ⟨H3, H3'⟩
  ihave Hg := (ofEq (gAll m c (rest 3))) $$ [H0 H1 H2 H3]
  · isplitl [H0]; · iexact H0
    isplitl [H1]; · iexact H1
    isplitl [H2] <;> iassumption
  iapply (load_g m c R) $$ Hg
  iintro Hg
  ihave Hg := (ofEq (gAll m c (rest 3)).symm) $$ Hg
  icases Hg with ⟨H0, H1, H2, H3⟩
  iapply (quants_wp m c R _ 8 le_rfl) $$ [Ho]
  · iexact Ho
  iintro Ho
  iapply (sendWaits_wp m K c R _ 24 le_rfl) $$ [HO Hn]
  · isplitr; · iexact HR
    isplitl [HO]; · iexact HO
    rw [Nat.sub_self, bigSep_finFrom_zero, bigSep_finUpTo_zero]
    isplitl [Hn]; · iexact Hn
    iempintro
  iintro ⟨HO, Hd⟩
  iapply (amaxSendWait_wp m K c R 0) $$ [HO Hc0 Ha0]
  · isplitr; · iexact HR
    isplitl [HO]; · iexact HO
    isplitl [Hc0] <;> iassumption
  iintro ⟨HO, Ha0, Hp0⟩
  iapply (amaxSendWait_wp m K c R 1) $$ [HO Hc1 Ha1]
  · isplitr; · iexact HR
    isplitl [HO]; · iexact HO
    isplitl [Hc1] <;> iassumption
  iintro ⟨HO, Ha1, Hp1⟩
  iapply (amaxSendWait_wp m K c R 2) $$ [HO Hc2 Ha2]
  · isplitr; · iexact HR
    isplitl [HO]; · iexact HO
    isplitl [Hc2] <;> iassumption
  iintro ⟨HO, Ha2, Hp2⟩
  iapply Hk
  isplitl [HO]; · iexact HO
  isplitl [Ho]; · iexact Ho
  isplitr [Hd]
  · isplitr [Ha0 Ha1 Ha2]
    · iapply (ofEq (gAll m c fullShare))
      isplitl [H0 Hp0 Hp1 Hp2]
      · iapply (g_join m c 0)
        isplitl [H0]; · iexact H0
        isplitl [Hp0]; · iexact Hp0
        isplitl [Hp1]; · iexact Hp1
        iexact Hp2
      isplitl [H1 H1']
      · iapply (g_join m c 1); isplitl [H1] <;> iassumption
      isplitl [H2 H2']
      · iapply (g_join m c 2); isplitl [H2] <;> iassumption
      iapply (g_join m c 3); isplitl [H3] <;> iassumption
    isplitl [Ha0]; · iexact Ha0
    isplitl [Ha1] <;> iassumption
  iexact Hd

/-! ## The exchange -/

theorem tile_eq (a : F .f32) (x) : amaxTile a x = a := rfl

/-- The own slot once the maximum is stored. -/
theorem tile_store (f : (cc0_scratch7 : Ref sig .tc).ty.Contents (Elt F)) :
    ((((c : Thread nD τ).loc cc0_scratch7) ↦[(amaxV 0).view.set]{fullShare} ((gM.access (amaxR 0)).write (Elt F) f (amaxTile (amaxN m c 7)) Finset.univ)) : sProp 𝕄)
      = gAt m c 0 fullShare := by
  unfold gAt ptsV
  refine pointsTo_congr fun i hi => ?_
  have hs : (gM.access (amaxR 0)).set = (amaxV 0).view.set := (View.set_slice_whole _ _).trans (amaxV_set 0).symm
  refine Eq.trans ?_ ((amaxC_at m c 0 i hi).trans (by rw [amaxOf_zero])).symm
  rw [← hs] at hi
  obtain ⟨y, -, rfl⟩ := Finset.mem_map.mp hi
  exact (View.write_emb_of_mem _ _ (Finset.mem_univ y)).trans (cast_eq _ _)

theorem load_own (f : (cc0_scratch7 : Ref sig .tc).ty.Contents (Elt F)) (hl) (P : KProg F) :
    (((gM.access (amaxR 0)).loc (c : Thread nD τ)) ↦[(amaxV 0).view.set]{fullShare} f : sProp 𝕄)
      ⊢ iprop(((((gM.access (amaxR 0)).loc (c : Thread nD τ)) ↦[(amaxV 0).view.set]{fullShare} f) -∗ WP c P R)
      -∗ WP c (.op (.load gM (amaxR 0).toLoadRect hl) fun _ => P) R) :=
  wp_load_rect 𝒱₀ (c : Thread nD τ) none Set.univ (m := gM) (r := amaxR 0) (S := (amaxV 0).view.set) (f := f) (q := fullShare)
    (k := fun _ => P) (hl := hl) (le_of_eq ((View.set_slice_whole _ _).trans (amaxV_set 0).symm))

theorem put_wp (hl hx hm) (P : KProg F) :
    anyV (F := F) c (amaxV 0) ⊢ iprop((gAt m c 0 fullShare -∗ WP c P R)
      -∗ WP c (.op (.load gM (amaxR 0).toLoadRect hl) fun _ => .op (.store gM (amaxR 0) (amaxTile (amaxN m c 7)) Finset.univ hx hm) fun _ => P) R) := by
  unfold anyV
  iintro ⟨%f, H⟩ Hk
  ihave H := (show ptsV c (amaxV 0) fullShare f ⊢ (((gM.access (amaxR 0)).loc (c : Thread nD τ)) ↦[(amaxV 0).view.set]{fullShare} f : sProp 𝕄) from BI.Entails.refl _) $$ H
  iapply (load_own c R f) $$ H
  iintro H
  iapply (wp_store 𝒱₀ (c : Thread nD τ) none Set.univ (m := gM) (r := amaxR 0) (Mk := Finset.univ) (S := (amaxV 0).view.set) (f := f) (w := amaxTile (amaxN m c 7)) (k := fun _ => P) (hx := hx) (hm := hm)
    (le_of_eq ((View.set_slice_whole _ _).trans (amaxV_set 0).symm))) $$ H
  iintro H
  iapply Hk
  iapply (ofEq (tile_store m c f)); iexact H

/-- What the exchange uses. -/
def exNeed : sProp 𝕄 :=
  iprop(anyV (F := F) c (amaxV 0) ∗ (bigSep Finset.univ fun j => amaxNeed (F := F) c j) ∗ (bigSep Finset.univ fun j => gotNeed (F := F) c j)
    ∗ bigSep Finset.univ fun j : Fin 3 => atPos ER (asendC c j) 0 ∅ 0)
/-- What it leaves. -/
def exDone : sProp 𝕄 := iprop(tailDone m c ∗ atPos ER (arecvC c 0) 1 ∅ 0 ∗ atPos ER (arecvC c 1) 1 ∅ 0 ∗ atPos ER (arecvC c 2) 1 ∅ 0)

theorem exchange_wp :
    iprop(recs m K ∗ ow c (owedA c 0) ∗ oAt c (outN m c 24) ∗ exNeed (F := F) c ∗ bigSep Finset.univ fun i => sentNeed m c i)
      ⊢ iprop(((ow c 0 ∗ oAt c (outAt m c) ∗ exDone m c ∗ bigSep Finset.univ fun i => sentDone m c i) -∗ WP c (.ret ⟨⟩) R)
        -∗ WP c (exchange c oM (amaxN m c 7)) R) := by
  unfold exchange exNeed exDone
  rw [bigSep_three, bigSep_three, bigSep_three]
  iintro ⟨#HR, HO, Ho, ⟨Hs, ⟨Hn0, Hn1, Hn2⟩, ⟨Hg0, Hg1, Hg2⟩, ⟨Ha0, Ha1, Ha2⟩⟩, Hn⟩ Hk
  iapply (put_wp m c R) $$ Hs
  iintro Hs
  iapply (amaxSend_wp m K c R 0) $$ [HO Hs Hn0]
  · isplitr; · iexact HR
    isplitl [Hs]; · iexact Hs
    isplitl [Hn0]; · iexact Hn0
    iexact HO
  iintro ⟨Hs, Hc0, HO⟩
  iapply (amaxSend_wp m K c R 1) $$ [HO Hs Hn1]
  · isplitr; · iexact HR
    isplitl [Hs]; · iexact Hs
    isplitl [Hn1]; · iexact Hn1
    iexact HO
  iintro ⟨Hs, Hc1, HO⟩
  iapply (amaxSend_wp m K c R 2) $$ [HO Hs Hn2]
  · isplitr; · iexact HR
    isplitl [Hs]; · iexact Hs
    isplitl [Hn2]; · iexact Hn2
    iexact HO
  iintro ⟨Hs, Hc2, HO⟩
  ihave HO := (show ow c (owedA c ((2 : Fin 3).val + 1)) ⊢ (ow c 0 : sProp 𝕄) from ofEq (congrArg (ow c) (owedA_end c))) $$ HO
  iapply (amaxWait_wp m K c R 0) $$ [HO Hg0]
  · isplitr; · iexact HR
    isplitl [HO]; · iexact HO
    iexact Hg0
  iintro ⟨HO, Hr0, H1⟩
  iapply (amaxWait_wp m K c R 1) $$ [HO Hg1]
  · isplitr; · iexact HR
    isplitl [HO]; · iexact HO
    iexact Hg1
  iintro ⟨HO, Hr1, H2⟩
  iapply (amaxWait_wp m K c R 2) $$ [HO Hg2]
  · isplitr; · iexact HR
    isplitl [HO]; · iexact HO
    iexact Hg2
  iintro ⟨HO, Hr2, H3⟩
  iapply (tail_wp m K c R) $$ [HO Ho Hs H1 H2 H3 Hc0 Hc1 Hc2 Ha0 Ha1 Ha2 Hn]
  · isplitr; · iexact HR
    isplitl [HO]; · iexact HO
    isplitl [Ho]; · iexact Ho
    isplitr [Hn]
    · unfold tailNeed
      isplitl [Hs]; · iexact Hs
      isplitl [H1]; · iexact H1
      isplitl [H2]; · iexact H2
      isplitl [H3]; · iexact H3
      isplitl [Hc0 Ha0]; · isplitl [Hc0] <;> iassumption
      isplitl [Hc1 Ha1]; · isplitl [Hc1] <;> iassumption
      isplitl [Hc2] <;> iassumption
    iexact Hn
  iintro ⟨HO, Ho, Ht, Hd⟩
  iapply Hk
  isplitl [HO]; · iexact HO
  isplitl [Ho]; · iexact Ho
  isplitr [Hd]
  · isplitl [Ht]; · iexact Ht
    isplitl [Hr0]; · iexact Hr0
    isplitl [Hr1] <;> iassumption
  iexact Hd

end Cert.Mm

end
-- ==== Proof.Whole.lean ====
/- The whole body of one device: from the pieces it starts with to the results it leaves. -/
module

public import proofs.«01_k».proof.Proof.Exchange

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

/-! ## Regroupings -/

/-- A resource for each own semaphore. -/
theorem bigSep_own (Φ : Own → sProp 𝕄) :
    bigSep Finset.univ Φ = iprop(Φ .x ∗ (bigSep Finset.univ fun i => Φ (.send i)) ∗ (bigSep Finset.univ fun i => Φ (.recv i))
      ∗ (Φ (.w 0) ∗ Φ (.w 1) ∗ Φ (.w 2)) ∗ (Φ (.asend 0) ∗ Φ (.asend 1) ∗ Φ (.asend 2)) ∗ (Φ (.arecv 0) ∗ Φ (.arecv 1) ∗ Φ (.arecv 2))) := by
  rw [BI.bigSep_univ_equiv Own.equiv Φ, BI.bigSep_univ_sum, BI.bigSep_univ_sum, BI.bigSep_univ_sum, BI.bigSep_univ_sum, BI.bigSep_univ_sum,
    BI.bigSep_univ_of_subsingleton (), bigSep_three, bigSep_three, bigSep_three]
  rfl

/-- A resource for each semaphore. -/
theorem bigSep_cel (Φ : Cel → sProp 𝕄) : bigSep Finset.univ Φ = iprop(Φ none ∗ bigSep Finset.univ fun k : Own => Φ (some k)) := by
  rw [BI.bigSep_univ_equiv ((Equiv.optionEquivSumPUnit Own).trans (Equiv.sumComm _ _)).symm Φ, BI.bigSep_univ_sum, BI.bigSep_univ_of_subsingleton (PUnit.unit : PUnit.{1})]
  rfl

/-- The chunks by the device they come from. -/
def chunkEquiv : Fin 3 × Fin 8 ≃ Fin 24 :=
  Equiv.ofBijective (fun jk => copyNo (flowR jk.1.val) jk.2) ((Fintype.bijective_iff_injective_and_card _).mpr ⟨by decide, by decide⟩)

theorem far_copy (j : Fin 3) (k : Fin 8) : far (copyNo (flowR j.val) k) = j := by revert j k; decide

/-- The chunks in the order they are used. -/
def orderEquiv : Fin 24 ≃ Fin 24 :=
  Equiv.ofBijective (fun t => copyOf t.val) ((Fintype.bijective_iff_injective_and_card _).mpr ⟨by decide, by decide⟩)

theorem bigSep_chunks (Φ : Fin 24 → sProp 𝕄) :
    bigSep Finset.univ Φ = bigSep Finset.univ fun j : Fin 3 => bigSep Finset.univ fun k : Fin 8 => Φ (copyNo (flowR j.val) k) := by
  rw [BI.bigSep_univ_equiv chunkEquiv Φ, BI.bigSep_univ_prod]
  rfl

theorem bigSep_order (Φ : Fin 24 → sProp 𝕄) : bigSep Finset.univ Φ = bigSep Finset.univ fun t : Fin 24 => Φ (copyOf t.val) :=
  BI.bigSep_univ_equiv orderEquiv Φ

/-! ## What the body starts from -/

/-- The positions of all semaphores. -/
def pos : sProp 𝕄 := bigSep Finset.univ fun k : Cel => atPos (ER (F := F)) (kcell (c, k)) 0 ∅ 0

/-- The duties device `c` pays. -/
def toks : sProp 𝕄 :=
  iprop((bigSep Finset.univ fun j : Fin 3 => dutyTok (ER (F := F)) (barC (bwd c j)) 0 j)
    ∗ (bigSep Finset.univ fun i : Fin 24 => dutyTok (ER (F := F)) (sendC c i) 0 0)
    ∗ (bigSep Finset.univ fun i : Fin 24 => dutyTok (ER (F := F)) (recvC (fwd c (far i)) i) 0 0)
    ∗ dutyTok (ER (F := F)) (xC c) 0 0
    ∗ (bigSep Finset.univ fun s : Fin 3 => dutyTok (ER (F := F)) (wC c s) 0 0)
    ∗ dutyTok (ER (F := F)) (wC c 0) 1 0
    ∗ (bigSep Finset.univ fun j : Fin 3 => dutyTok (ER (F := F)) (asendC c j) 0 0)
    ∗ (bigSep Finset.univ fun j : Fin 3 => dutyTok (ER (F := F)) (arecvC (fwd c j) j) 0 0))

/-- The credits device `c` waits with. -/
def creds : sProp 𝕄 :=
  iprop(cred (tallyAt (barC c) () 3) ∗ (bigSep Finset.univ fun i : Fin 24 => cred (unit1 c (some (.recv i)))) ∗ bigSep Finset.univ fun j : Fin 3 => cred (unit1 c (some (.arecv j))))

/-- The four buffers, at any contents. -/
def bufs : sProp 𝕄 :=
  iprop(anyS (F := F) c cc0_scratch0 Finset.univ ∗ anyS (F := F) c cc0_scratch3 Finset.univ ∗ anyS (F := F) c cc0_scratch5 Finset.univ ∗ anyS (F := F) c cc0_scratch7 Finset.univ)

theorem comm_split : anyS (F := F) c cc0_scratch0 Finset.univ ⊢ (bigSep Finset.univ fun i => anyV (F := F) c (commV i) : sProp 𝕄) :=
  anyS_split c cc0_scratch0 (fun i : Fin 24 => (commV i).view.set) comm_cov comm_dis
theorem comm_join (m : (ℓ : Loc nD τ sig) → Buf (Elt F) ℓ) (c : Dev nD) : (bigSep Finset.univ fun i => anyV (F := F) c (commV i) : sProp 𝕄) ⊢ anyS (F := F) c cc0_scratch0 Finset.univ :=
  anyS_join c cc0_scratch0 (fun i : Fin 24 => (commV i).view.set) (m ((c : Thread nD τ).loc cc0_scratch0)) comm_cov comm_dis
theorem slot_split : anyS (F := F) c cc0_scratch5 Finset.univ ⊢ (bigSep Finset.univ fun s => anyV (F := F) c (slotV s) : sProp 𝕄) :=
  anyS_split c cc0_scratch5 (fun s : Fin 3 => (slotV s).view.set) slot_cov slot_dis
theorem slot_join (m : (ℓ : Loc nD τ sig) → Buf (Elt F) ℓ) (c : Dev nD) : (bigSep Finset.univ fun s => anyV (F := F) c (slotV s) : sProp 𝕄) ⊢ anyS (F := F) c cc0_scratch5 Finset.univ :=
  anyS_join c cc0_scratch5 (fun s : Fin 3 => (slotV s).view.set) (m ((c : Thread nD τ).loc cc0_scratch5)) slot_cov slot_dis
theorem amax_split : anyS (F := F) c cc0_scratch7 Finset.univ ⊢ (bigSep Finset.univ fun d => anyV (F := F) c (amaxV d) : sProp 𝕄) :=
  anyS_split c cc0_scratch7 (fun d : Fin 4 => (amaxV d).view.set) amax_cov amax_dis
theorem xo_split : anyS (F := F) c cc0_scratch3 Finset.univ = (anyV (F := F) c xoM : sProp 𝕄) := by
  unfold anyS anyV ptsV
  rw [show xoM.view.set = Finset.univ from View.set_whole _]

/-- What the three signals hand over. -/
theorem entry : iprop(anyS (F := F) c cc0_scratch0 Finset.univ ∗ anyS (F := F) c cc0_scratch7 Finset.univ)
    ⊢ iprop(anyV (F := F) c (amaxV 0) ∗ barPay (F := F) c 0 ∗ barPay (F := F) c 1 ∗ barPay (F := F) c 2) := by
  iintro ⟨H0, H7⟩
  ihave H0 := (comm_split c) $$ H0
  ihave H7 := (amax_split c) $$ H7
  ihave H0 := (ofEq ((bigSep_chunks _).trans (bigSep_three _))) $$ H0
  ihave H7 := (ofEq (bigSep_four _)) $$ H7
  icases H0 with ⟨Ha, Hb, Hc⟩
  icases H7 with ⟨H7, H71, H72, H73⟩
  unfold barPay
  isplitl [H7]; · iexact H7
  isplitl [Ha H71]; · isplitl [Ha]; · iexact Ha
                      iexact H71
  isplitl [Hb H72]; · isplitl [Hb]; · iexact Hb
                      iexact H72
  isplitl [Hc]; · iexact Hc
  iexact H73

/-- What the barrier brings, by the transfer that uses it. -/
theorem regroup :
    iprop((bigSep Finset.univ fun j : Fin 3 => barPay (F := F) (fwd c j) j)
        ∗ (bigSep Finset.univ fun i : Fin 24 => dutyTok (ER (F := F)) (sendC c i) 0 0)
        ∗ (bigSep Finset.univ fun i : Fin 24 => dutyTok (ER (F := F)) (recvC (fwd c (far i)) i) 0 0)
        ∗ (bigSep Finset.univ fun j : Fin 3 => dutyTok (ER (F := F)) (asendC c j) 0 0)
        ∗ bigSep Finset.univ fun j : Fin 3 => dutyTok (ER (F := F)) (arecvC (fwd c j) j) 0 0)
      ⊢ (iprop((bigSep Finset.univ fun i => sendNeed (F := F) c i) ∗ bigSep Finset.univ fun j => amaxNeed (F := F) c j) : sProp 𝕄) := by
  have h : (bigSep Finset.univ fun i : Fin 24 => anyV (F := F) (fwd c (far i)) (commV i) : sProp 𝕄)
      = bigSep Finset.univ fun j : Fin 3 => bigSep Finset.univ fun k : Fin 8 => anyV (F := F) (fwd c j) (commV (copyNo (flowR j.val) k)) := by
    rw [bigSep_chunks]
    exact bigSep_congr fun j _ => bigSep_congr fun k _ => by rw [far_copy]
  unfold barPay sendNeed amaxNeed
  rw [bigSep_sep', bigSep_sep', bigSep_sep', bigSep_sep', bigSep_sep', h]
  iintro ⟨⟨H1, H2⟩, Hs, Hr, Has, Har⟩
  isplitl [H1 Hs Hr]
  · isplitl [H1]; · iexact H1
    isplitl [Hs] <;> iassumption
  isplitl [H2]; · iexact H2
  isplitl [Has] <;> iassumption

/-! ## The barrier -/

theorem barrier_wp (P : KProg F) :
    iprop(recs m K ∗ ow c (owed₀ c) ∗ cred (tallyAt (barC c) () 3) ∗ atPos ER (barC c) 0 ∅ 0
        ∗ (bigSep Finset.univ fun j : Fin 3 => dutyTok (ER (F := F)) (barC (bwd c j)) 0 j)
        ∗ barPay (F := F) c 0 ∗ barPay (F := F) c 1 ∗ barPay (F := F) c 2)
      ⊢ iprop(((ow c (owedS c 0) ∗ atPos ER (barC c) 1 ∅ 0 ∗ bigSep Finset.univ fun j : Fin 3 => barPay (F := F) (fwd c j) j) -∗ WP c P R)
        -∗ WP c (barrier c P) R) := by
  unfold barrier owed₀
  rw [bigSep_three]
  iintro ⟨#HR, HO, Hc, Hat, ⟨Ht0, Ht1, Ht2⟩, Hp0, Hp1, Hp2⟩ Hk
  iapply (signal_step m K c _ R 2 _ (dev1_eq c) _) $$ [HO Ht2 Hp2]
  · isplitr; · iexact HR
    isplitl [HO]; · iexact HO
    isplitl [Ht2] <;> iassumption
  iintro HO
  iapply (signal_step m K c _ R 1 _ (dev2_eq c) _) $$ [HO Ht1 Hp1]
  · isplitr; · iexact HR
    isplitl [HO]; · iexact HO
    isplitl [Ht1] <;> iassumption
  iintro HO
  iapply (signal_step m K c _ R 0 _ (dev3_eq c) _) $$ [HO Ht0 Hp0]
  · isplitr; · iexact HR
    isplitl [HO]; · iexact HO
    isplitl [Ht0] <;> iassumption
  iintro HO
  iapply (bar_wait m K c _ R) $$ [HO Hc Hat]
  · isplitr; · iexact HR
    isplitl [Hc]; · iexact Hc
    isplitl [HO] <;> iassumption
  iexact Hk

/-! ## The end -/

/-- The positions at the end. -/
def posEnd : sProp 𝕄 := bigSep Finset.univ fun k : Cel => atPos (ER (F := F)) (kcell (c, k)) (rounds k) ∅ 0

theorem close_one (k : Cel) : iprop(recs m K ∗ atPos ER (kcell (c, k)) (rounds k) ∅ 0) ⊢ iprop(|={Set.univ}=> semVal (kcell (c, k)) 0) := by
  iintro ⟨#HR, Hat⟩
  iapply (cell_close ER (Rd m) (Set.mem_univ (K (c, k))) (fun h => h) (R := rounds k) (duties_later m c k))
  isplitr; · iapply (recs_inv m K (c, k)); iexact HR
  iexact Hat

theorem close_all : iprop(recs m K ∗ posEnd (F := F) c) ⊢ iprop(|={Set.univ}=> bigSep Finset.univ fun k : Cel => semVal (kcell (c, k)) 0) := by
  unfold posEnd
  exact (bigSep_with_persistent (R := recs m K) fun k _ => close_one m K c k).trans (bigSep_fupd _ _)

/-- What the body leaves. -/
def left : sProp 𝕄 :=
  iprop(xAt m c fullShare ∗ wAt m c fullShare ∗ bufs (F := F) c ∗ bigSep Finset.univ fun k : Cel => semVal (kcell (c, k)) 0)

theorem land_any : (bigSep Finset.univ fun t => landDone m c t)
    ⊢ (iprop(anyS (F := F) c cc0_scratch0 Finset.univ ∗ bigSep Finset.univ fun i : Fin 24 => atPos (ER (F := F)) (recvC c i) 1 ∅ 0) : sProp 𝕄) := by
  have h1 (i : Fin 24) : recvPay m c i ⊢ (anyV (F := F) c (commV i) : sProp 𝕄) := hasV_any c (commV i) (xIn m c i)
  have h2 : (bigSep Finset.univ fun i : Fin 24 => recvPay m c i) ⊢ (bigSep Finset.univ fun i => anyV (F := F) c (commV i) : sProp 𝕄) := bigSep_mono fun i _ => h1 i
  unfold landDone
  rw [bigSep_sep', ← bigSep_order fun i => recvPay m c i, ← bigSep_order fun i => (atPos (ER (F := F)) (recvC c i) 1 ∅ 0 : sProp 𝕄)]
  iintro ⟨H1, H2⟩
  isplitl [H1]
  · iapply (comm_join m c); iapply h2; iexact H1
  iexact H2

theorem slots_any : slots m c ⊢ (anyS (F := F) c cc0_scratch5 Finset.univ : sProp 𝕄) := by
  unfold slots
  iintro ⟨H1, H2, H0⟩
  iapply (slot_join m c)
  rw [bigSep_three]
  isplitl [H0]; · iapply (hasV_any c (slotV 0) (wIn m c 3)); iexact H0
  isplitl [H1]; · iapply (hasV_any c (slotV 1) (wIn m c 1)); iexact H1
  iapply (hasV_any c (slotV 2) (wIn m c 2)); iexact H2

theorem sent_split : (bigSep Finset.univ fun i => sentDone m c i)
    = (iprop((bigSep Finset.univ fun i : Fin 24 => xAt m c (piece i.val)) ∗ bigSep Finset.univ fun i : Fin 24 => atPos (ER (F := F)) (sendC c i) 1 ∅ 0) : sProp 𝕄) := by
  unfold sentDone; rw [bigSep_sep']

theorem x_join : iprop(xAt m c (rest 24) ∗ bigSep Finset.univ fun i : Fin 24 => xAt m c (piece i.val)) ⊢ (xAt m c fullShare : sProp 𝕄) := by
  have h := pieces_join c main_arg0 Finset.univ (mx m c) 24 24 le_rfl
  rw [bigSep_finUpTo_self] at h
  exact h

theorem wp_fin : iprop(|={Set.univ}=> R ⟨⟩) ⊢ WP c (.ret ⟨⟩ : KProg F) R := by
  unfold WP; rw [wp_ret]

set_option maxHeartbeats 800000 in
/-- The body of device `c`. -/
theorem body_wp (f : OutC F) :
    iprop(recs m K ∗ pos (F := F) c ∗ toks (F := F) c ∗ creds (F := F) c ∗ ow c (owed₀ c) ∗ xAt m c fullShare ∗ wAt m c fullShare ∗ bufs (F := F) c ∗ oAt c f)
      ⊢ iprop(((ow c 0 ∗ oAt c (outAt m c) ∗ left m c) -∗ R ⟨⟩) -∗ WP c (body oM) R) := by
  unfold pos toks creds bufs body
  rw [bigSep_cel, bigSep_own, xo_split]
  simp only [wp_deviceId]
  iintro ⟨#HR, ⟨Hbar, Hax, Has, Har, ⟨Haw0, Haw1, Haw2⟩, Haas, Haar⟩, ⟨Htb, Hts, Htr, Htx, Htw, Htw', Htas, Htar⟩, ⟨Hcb, Hcr, Hca⟩, HO, Hx, Hw, ⟨H0, H3, H5, H7⟩, Ho⟩ Hk
  ihave Htw := (ofEq (bigSep_three _)) $$ Htw
  icases Htw with ⟨Htw0, Htw1, Htw2⟩
  ihave He := (entry (F := F) c) $$ [H0 H7]
  · isplitl [H0] <;> iassumption
  icases He with ⟨Ham, Hp0, Hp1, Hp2⟩
  iapply (barrier_wp m K c R) $$ [HO Hcb Hbar Htb Hp0 Hp1 Hp2]
  · isplitr; · iexact HR
    isplitl [HO]; · iexact HO
    isplitl [Hcb]; · iexact Hcb
    isplitl [Hbar]; · iexact Hbar
    isplitl [Htb]; · iexact Htb
    isplitl [Hp0]; · iexact Hp0
    isplitl [Hp1] <;> iassumption
  iintro ⟨HO, Hbar, Hb⟩
  ihave Hn := (regroup (F := F) c) $$ [Hb Hts Htr Htas Htar]
  · isplitl [Hb]; · iexact Hb
    isplitl [Hts]; · iexact Hts
    isplitl [Htr]; · iexact Htr
    isplitl [Htas] <;> iassumption
  icases Hn with ⟨Hsn, Han⟩
  iapply (sends_wp m K c R _ 24 le_rfl) $$ [Hx HO Hsn]
  · isplitr; · iexact HR
    rw [Nat.sub_self, bigSep_finFrom_zero, bigSep_finUpTo_zero]
    isplitl [Hx]; · iexact Hx
    isplitl [HO]; · iexact HO
    isplitl [Hsn]; · iexact Hsn
    iempintro
  iintro ⟨Hx, HO, Hsd⟩
  ihave H5 := (slot_split (F := F) c) $$ H5
  ihave H5 := (ofEq (bigSep_three _)) $$ H5
  icases H5 with ⟨Hs0, Hs1, Hs2⟩
  iapply (own_wp m K c R f) $$ [Hx Hw H3 Hs0 Hs1 Hs2 Ho HO Htx Hax Htw0 Htw' Haw0 Htw1 Haw1 Htw2 Haw2 Hcr Har]
  · isplitr; · iexact HR
    isplitl [Hx]; · iexact Hx
    isplitl [Hw]; · iexact Hw
    isplitl [H3]; · iexact H3
    isplitl [Hs0]; · iexact Hs0
    isplitl [Hs1]; · iexact Hs1
    isplitl [Hs2]; · iexact Hs2
    isplitl [Ho]; · iexact Ho
    isplitl [HO]; · iexact HO
    isplitr [Hcr Har]
    · unfold ownNeed
      isplitl [Htx]; · iexact Htx
      isplitl [Hax]; · iexact Hax
      isplitl [Htw0]; · iexact Htw0
      isplitl [Htw']; · iexact Htw'
      isplitl [Haw0]; · iexact Haw0
      isplitl [Htw1]; · iexact Htw1
      isplitl [Haw1]; · iexact Haw1
      isplitl [Htw2] <;> iassumption
    · unfold landNeed
      rw [bigSep_sep', ← bigSep_order fun i => (cred (unit1 c (some (.recv i))) : sProp 𝕄), ← bigSep_order fun i => (atPos (ER (F := F)) (recvC c i) 0 ∅ 0 : sProp 𝕄)]
      isplitl [Hcr] <;> iassumption
  iintro ⟨Hx, Hw, H3, Hod, Had⟩
  unfold added
  icases Had with ⟨Ho, HO, Hsl, -, Hld⟩
  ihave Hld := (ofEq (bigSep_finUpTo_self (n := 24) fun t => landDone m c t)) $$ Hld
  iapply (exchange_wp m K c R) $$ [HO Ho Ham Han Hca Haar Haas Hsd Has]
  · isplitr; · iexact HR
    isplitl [HO]; · iexact HO
    isplitl [Ho]; · iexact Ho
    isplitr [Hsd Has]
    · unfold exNeed gotNeed
      rw [bigSep_sep', bigSep_three (fun j => (atPos ER (arecvC c j) 0 ∅ 0 : sProp 𝕄)), bigSep_three (fun j => (atPos ER (asendC c j) 0 ∅ 0 : sProp 𝕄))]
      isplitl [Ham]; · iexact Ham
      isplitl [Han]; · iexact Han
      isplitl [Hca Haar]; · isplitl [Hca] <;> iassumption
      iexact Haas
    · unfold sentNeed
      rw [bigSep_sep']
      isplitl [Hsd] <;> iassumption
  iintro ⟨HO, Ho, Hex, Hsd⟩
  ihave Hsd := (ofEq (sent_split m c)) $$ Hsd
  unfold exDone tailDone ownDone
  icases Hex with ⟨⟨H7, Haas⟩, Haar⟩
  icases Hsd with ⟨Hxp, Has⟩
  icases Hod with ⟨Hax, Haw0, Haw1, Haw2⟩
  ihave Hl := (land_any m c) $$ Hld
  icases Hl with ⟨H0, Har⟩
  iapply (wp_fin c R)
  imod (close_all m K c) $$ [Hbar Hax Has Har Haw0 Haw1 Haw2 Haas Haar] with Hz
  · isplitr; · iexact HR
    unfold posEnd
    rw [bigSep_cel, bigSep_own]
    isplitl [Hbar]; · iexact Hbar
    isplitl [Hax]; · iexact Hax
    isplitl [Has]; · iexact Has
    isplitl [Har]; · iexact Har
    isplitl [Haw0 Haw1 Haw2]
    · isplitl [Haw0]; · iexact Haw0
      isplitl [Haw1]; · iexact Haw1
      iexact Haw2
    isplitl [Haas]; · iexact Haas
    iexact Haar
  imodintro
  iapply Hk
  isplitl [HO]; · iexact HO
  isplitl [Ho]; · iexact Ho
  unfold left bufs
  isplitl [Hx Hxp]
  · iapply (x_join m c); isplitl [Hx] <;> iassumption
  isplitl [Hw]; · iexact Hw
  isplitr [Hz]
  · rw [xo_split]
    isplitl [H0]; · iexact H0
    isplitl [H3]; · iexact H3
    isplitl [Hsl]; · iapply (slots_any m c); iexact Hsl
    unfold anyS; iexists (amaxC m c); iexact H7
  iexact Hz

end Cert.Mm

end
-- ==== Proof.Setup.lean ====
/- The ghost state at launch: the cells' invariants, the duties dealt to the devices that pay them, the credits. -/
module

public import proofs.«01_k».proof.Proof.Whole
public import Idealize.ShloMosaic.Lib.Pipeline.Launch

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

/-! ## The cells and the duties minted -/

theorem kcell_injective : Function.Injective (kcell : Dev nD × Cel → GSem nD τ sig) := fun a b h =>
  Prod.ext (congrArg (fun g : GSem nD τ sig => g.1.1) h) (csem_injective (congrArg Prod.snd h))

/-- The names of one device's duties: its barrier's three, the first round of every own semaphore, and the second round
    of the slot that is filled twice. -/
abbrev Tk : Type := Fin 3 ⊕ Own ⊕ Unit

/-- The cell, the round and the duty each names. -/
def tkOf : Dev nD × Tk → (GSem nD τ sig × ℕ × Fin 3)
  | (c, .inl j) => (barC c, 0, j)
  | (c, .inr (.inl k)) => (kcell (c, some k), 0, 0)
  | (c, .inr (.inr _)) => (wC c 0, 1, 0)

theorem tkOf_injective : Function.Injective tkOf := by
  have hk {a b : Dev nD × Cel} {x y : ℕ × Fin 3} (h : (kcell a, x) = (kcell b, y)) : a = b := kcell_injective (congrArg Prod.fst h)
  rintro ⟨c, j | k | _⟩ ⟨c', j' | k' | _⟩ h
  · have h1 := congrArg Prod.fst (hk h)
    have h2 : j = j' := congrArg (fun x : GSem nD τ sig × ℕ × Fin 3 => x.2.2) h
    have h1' : c = c' := h1
    rw [h1', h2]
  · exact absurd (congrArg Prod.snd (hk h)) (by simp)
  · exact absurd (congrArg Prod.snd (hk h)) (by simp)
  · exact absurd (congrArg Prod.snd (hk h)) (by simp)
  · have h1 : c = c' := congrArg Prod.fst (hk h)
    have h2 : some k = some k' := congrArg Prod.snd (hk h)
    rw [h1, Option.some.inj h2]
  · exact absurd (congrArg (fun x : GSem nD τ sig × ℕ × Fin 3 => x.2.1) h) (by simp [tkOf])
  · exact absurd (congrArg Prod.snd (hk h)) (by simp)
  · exact absurd (congrArg (fun x : GSem nD τ sig × ℕ × Fin 3 => x.2.1) h) (by simp [tkOf])
  · have h1 : c = c' := congrArg Prod.fst (hk h)
    rw [h1]

/-- All the protocol's cells, and all the duties of their rounds. -/
def allCells : Finset (GSem nD τ sig) := Finset.univ.map ⟨kcell, kcell_injective⟩
def allToks : Finset (GSem nD τ sig × ℕ × Fin 3) := Finset.univ.map ⟨tkOf, tkOf_injective⟩

/-- The launch element: the pipeline's and the protocol's. -/
def u₀ : UU := (initOf (Pipeline.cells cfgs cellOf_inj) (Pipeline.launchToks cfgs cellOf_inj), initOf allCells allToks)

/-- The duties of device `c`'s own cells. -/
def minted : sProp 𝕄 :=
  iprop((bigSep Finset.univ fun j : Fin 3 => dutyTok (ER (F := F)) (barC c) 0 j) ∗ (bigSep Finset.univ fun k : Own => dutyTok (ER (F := F)) (kcell (c, some k)) 0 0)
    ∗ dutyTok (ER (F := F)) (wC c 0) 1 0)

/-- What the launch gives device `c`. -/
def G : sProp 𝕄 :=
  iprop((bigSep Finset.univ fun k : Cel => roundState ER (Rd m) (kcell (c, k)) 0) ∗ pos (F := F) c
    ∗ (bigSep Finset.univ fun k : Cel => reached (ER (F := F)) (kcell (c, k)) 0) ∗ minted (F := F) c)

theorem by_device (Φ : GSem nD τ sig → sProp 𝕄) :
    bigSep allCells Φ = bigSep Finset.univ fun c : Dev nD => bigSep Finset.univ fun k : Cel => Φ (kcell (c, k)) := by
  unfold allCells
  rw [bigSep_map, BI.bigSep_univ_prod]
  rfl

theorem minted_eq : bigSep allToks (fun x => (dutyTok (ER (F := F)) x.1 x.2.1 x.2.2 : sProp 𝕄)) = bigSep Finset.univ fun c : Dev nD => minted (F := F) c := by
  unfold allToks
  rw [bigSep_map, BI.bigSep_univ_prod]
  refine bigSep_congr fun c _ => ?_
  rw [BI.bigSep_univ_sum, BI.bigSep_univ_sum, BI.bigSep_univ_of_subsingleton ()]
  rfl

/-- The launch element pays for the round states, the positions, the marks and the duties of every device. -/
theorem fund : BI.own (ER (F := F) (initOf allCells allToks)) ⊢ (|==> bigSep Finset.univ (G m) : sProp 𝕄) := by
  have hG : bigSep Finset.univ (G m) = iprop((bigSep Finset.univ fun c : Dev nD => bigSep Finset.univ fun k : Cel => roundState ER (Rd m) (kcell (c, k)) 0)
      ∗ (bigSep Finset.univ fun c : Dev nD => pos (F := F) c) ∗ (bigSep Finset.univ fun c : Dev nD => bigSep Finset.univ fun k : Cel => reached (ER (F := F)) (kcell (c, k)) 0)
      ∗ bigSep Finset.univ fun c : Dev nD => minted (F := F) c) := by
    unfold G
    rw [bigSep_sep', bigSep_sep', bigSep_sep']
  rw [hG]
  iintro H
  imod (Rounds.fund ER (Rd m) allCells allToks) $$ H with ⟨Hs, Hr, Ha, Ht⟩
  ihave Hs := (ofEq (by_device fun g => roundState ER (Rd m) g 0)) $$ Hs
  ihave Hr := (ofEq (by_device (F := F) fun g => reached ER g 0)) $$ Hr
  ihave Ha := (ofEq (by_device (F := F) fun g => atPos ER g 0 ∅ 0)) $$ Ha
  ihave Ht := (ofEq (minted_eq (F := F))) $$ Ht
  imodintro
  isplitl [Hs]; · iexact Hs
  isplitl [Ha]; · unfold pos; iexact Ha
  isplitl [Hr]; · iexact Hr
  iexact Ht

/-! ## The duties carried to the devices that pay them -/

/-- A family of resources, one of each device and each name, renumbered along a turn of the ring of its own per name. -/
theorem carry {I : Type} [Fintype I] [DecidableEq I] (e : I → Dev nD ≃ Dev nD) (Φ : Dev nD → I → sProp 𝕄) :
    (bigSep Finset.univ fun c : Dev nD => bigSep Finset.univ fun i : I => Φ c i)
      = bigSep Finset.univ fun c : Dev nD => bigSep Finset.univ fun i : I => Φ (e i c) i := by
  have hc (Ψ : Dev nD → I → sProp 𝕄) : (bigSep Finset.univ fun c : Dev nD => bigSep Finset.univ fun i : I => Ψ c i)
      = bigSep Finset.univ fun i : I => bigSep Finset.univ fun c : Dev nD => Ψ c i := by
    rw [← BI.bigSep_univ_prod fun ci : Dev nD × I => Ψ ci.1 ci.2, ← BI.bigSep_univ_prod fun ic : I × Dev nD => Ψ ic.2 ic.1,
      BI.bigSep_univ_equiv (Equiv.prodComm I (Dev nD))]
    rfl
  rw [hc, hc fun c i => Φ (e i c) i]
  exact bigSep_congr fun i _ => BI.bigSep_univ_equiv (e i) fun c => Φ c i

/-- One device's duties, the three families that are carried away first. -/
def mintedBy (c : Dev nD) : sProp 𝕄 :=
  iprop((bigSep Finset.univ fun j : Fin 3 => dutyTok (ER (F := F)) (barC c) 0 j)
      ∗ (bigSep Finset.univ fun i : Fin 24 => dutyTok (ER (F := F)) (recvC c i) 0 0)
      ∗ (bigSep Finset.univ fun j : Fin 3 => dutyTok (ER (F := F)) (arecvC c j) 0 0)
      ∗ ((bigSep Finset.univ fun i : Fin 24 => dutyTok (ER (F := F)) (sendC c i) 0 0) ∗ dutyTok (ER (F := F)) (xC c) 0 0
      ∗ (bigSep Finset.univ fun s : Fin 3 => dutyTok (ER (F := F)) (wC c s) 0 0) ∗ dutyTok (ER (F := F)) (wC c 0) 1 0
      ∗ bigSep Finset.univ fun j : Fin 3 => dutyTok (ER (F := F)) (asendC c j) 0 0))

theorem minted_split (c : Dev nD) : minted (F := F) c ⊢ mintedBy (F := F) c := by
  unfold minted mintedBy
  rw [bigSep_own, bigSep_three fun j => dutyTok (ER (F := F)) (arecvC c j) 0 0, bigSep_three fun j => dutyTok (ER (F := F)) (asendC c j) 0 0,
    bigSep_three fun s => dutyTok (ER (F := F)) (wC c s) 0 0]
  iintro ⟨Hb, ⟨Hx, Hs, Hr, Hw, Has, Har⟩, Hw'⟩
  isplitl [Hb]; · iexact Hb
  isplitl [Hr]; · iexact Hr
  isplitl [Har]; · iexact Har
  isplitl [Hs]; · iexact Hs
  isplitl [Hx]; · iexact Hx
  isplitl [Hw]; · iexact Hw
  isplitl [Hw']; · iexact Hw'
  iexact Has

/-- Every device's duties, each with the device that pays it. -/
theorem minted_toks : (bigSep Finset.univ fun c : Dev nD => minted (F := F) c) ⊢ (bigSep Finset.univ fun c : Dev nD => toks (F := F) c : sProp 𝕄) := by
  have h1 : (bigSep Finset.univ fun c : Dev nD => minted (F := F) c) ⊢ (bigSep Finset.univ fun c : Dev nD => mintedBy (F := F) c : sProp 𝕄) :=
    bigSep_mono fun c _ => minted_split (F := F) c
  refine h1.trans (show (bigSep Finset.univ fun c : Dev nD => mintedBy (F := F) c) ⊢ (bigSep Finset.univ fun c : Dev nD => toks (F := F) c : sProp 𝕄) from ?_)
  unfold mintedBy toks
  simp only [bigSep_sep']
  rw [carry (fun j => (turn j).symm) fun c j => dutyTok (ER (F := F)) (barC c) 0 j,
    carry (fun i => turn (far i)) fun c i => dutyTok (ER (F := F)) (recvC c i) 0 0,
    carry (fun j => turn j) fun c j => dutyTok (ER (F := F)) (arecvC c j) 0 0]
  iintro ⟨Hb, Hr, Har, Hs, Hx, Hw, Hw', Has⟩
  isplitl [Hb]; · iexact Hb
  isplitl [Hs]; · iexact Hs
  isplitl [Hr]; · iexact Hr
  isplitl [Hx]; · iexact Hx
  isplitl [Hw]; · iexact Hw
  isplitl [Hw']; · iexact Hw'
  isplitl [Has]; · iexact Has
  iexact Har

/-! ## The invariants -/

/-- The own semaphores and the barrier's, all at zero. -/
theorem sems_at_zero : iprop(Pipeline.ownSems0 (Ix := Unit) (Name := ℕ) (U := UU) (Lvl := ℕ) (Val := Elt F) (τ := τ) osem c ∗ unscopedSems0 c)
    = (bigSep Finset.univ fun k : Cel => semVal (kcell (c, k)) 0 : sProp 𝕄) := by
  have hu : (unscopedSems0 c : sProp 𝕄) = semVal (barC c) 0 := by
    unfold unscopedSems0
    rw [bigSep_eq_bigSepL_of_eq [SemLoc.reg barrier0] (by decide) (by decide)]
    rfl
  rw [hu, bigSep_cel]
  exact Entails.antisymm BI.sep_comm BI.sep_comm

/-- Every cell's invariant, from its semaphore at zero and its round state. -/
theorem alloc_dev : iprop(Pipeline.ownSems0 (Ix := Unit) (Name := ℕ) (U := UU) (Lvl := ℕ) (Val := Elt F) (τ := τ) osem c ∗ unscopedSems0 c ∗ G m c)
    ⊢ (|={Set.univ}=> iprop((bigSep Finset.univ fun k : Cel => iprop(∃ κ : ℕ, cellInv ER (Rd m) κ (kcell (c, k)))) ∗ pos (F := F) c
        ∗ (bigSep Finset.univ fun k : Cel => reached (ER (F := F)) (kcell (c, k)) 0) ∗ minted (F := F) c) : sProp 𝕄) := by
  have hall : iprop((bigSep Finset.univ fun k : Cel => semVal (kcell (c, k)) 0) ∗ bigSep Finset.univ fun k : Cel => roundState ER (Rd m) (kcell (c, k)) 0)
      ⊢ (|={Set.univ}=> bigSep Finset.univ fun k : Cel => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Ho, Hu, Hs, Hp, Hr, Ht⟩
  ihave Hz := (ofEq (sems_at_zero (F := F) c)) $$ [Ho Hu]
  · isplitl [Ho] <;> iassumption
  imod hall $$ [Hz Hs] with HI
  · isplitl [Hz] <;> iassumption
  imodintro
  isplitl [HI]; · iexact HI
  isplitl [Hp]; · iexact Hp
  isplitl [Hr]; · iexact Hr
  iexact Ht

/-- The records every device may consult, but for the levels. -/
def books : sProp 𝕄 :=
  iprop((bigSep Finset.univ fun ck : Dev nD × Cel => cellInv ER (Rd m) (K ck) (kcell ck))
    ∗ bigSep Finset.univ fun ck : Dev nD × Cel => reached (ER (F := F)) (kcell ck) 0)
instance books_persistent : BI.Persistent (books m K) := by unfold books; infer_instance

/-- What device `c` has of the protocol after the launch. -/
def G' : sProp 𝕄 := iprop(∃ K, books m K ∗ pos (F := F) c ∗ toks (F := F) c)

theorem share_out : (bigSep Finset.univ fun c : Dev nD => iprop((bigSep Finset.univ fun k : Cel => iprop(∃ κ : ℕ, cellInv ER (Rd m) κ (kcell (c, k)))) ∗ pos (F := F) c
        ∗ (bigSep Finset.univ fun k : Cel => reached (ER (F := F)) (kcell (c, k)) 0) ∗ minted (F := F) c) : sProp 𝕄)
    ⊢ bigSep Finset.univ (G' m) := by
  have hdeal (K : Dev nD × Cel → ℕ) (c : Dev nD) : iprop(books m K ∗ (pos (F := F) c ∗ toks (F := F) c)) ⊢ G' m c := by
    unfold G'
    iintro ⟨Hb, Hp, Ht⟩
    iexists K
    isplitl [Hb]; · iexact Hb
    isplitl [Hp] <;> iassumption
  have hall (K : Dev nD × Cel → ℕ) : iprop(books m K ∗ bigSep Finset.univ fun c : Dev nD => iprop(pos (F := F) c ∗ toks (F := F) c)) ⊢ bigSep Finset.univ (G' m) :=
    bigSep_with_persistent (R := books m K) fun c _ => hdeal K c
  rw [bigSep_sep', bigSep_sep', bigSep_sep', ← BI.bigSep_univ_prod fun ck : Dev nD × Cel => iprop(∃ κ : ℕ, cellInv ER (Rd m) κ (kcell ck)),
    ← BI.bigSep_univ_prod fun ck : Dev nD × Cel => reached (ER (F := F)) (kcell ck) 0]
  iintro ⟨HI, Hp, Hr, Ht⟩
  ihave HK := (BI.bigSep_exists_pi Finset.univ fun (ck : Dev nD × Cel) (κ : ℕ) => (cellInv ER (Rd m) κ (kcell ck) : sProp 𝕄)) $$ HI
  icases HK with ⟨%K, HI⟩
  ihave Ht := (minted_toks (F := F)) $$ Ht
  iapply (hall K)
  isplitl [HI Hr]
  · unfold books
    isplitl [HI] <;> iassumption
  iapply (ofEq (bigSep_sep' Finset.univ (fun c : Dev nD => pos (F := F) c) fun c : Dev nD => toks (F := F) c).symm)
  isplitl [Hp] <;> iassumption

/-- The launch's one step over all devices. -/
theorem glob : (bigSep Finset.univ fun c : Dev nD => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_dev m c).trans (bigSep_fupd _ _)).trans (BI.fupd_mono (share_out m))

/-! ## The launch credits -/

theorem unit1_at (d c : Dev nD) (k' k : Cel) : (unit1 d k') (kcell (c, k)) () = if d = c ∧ k' = k then amt k else 0 := by
  rw [tallyAt_apply]
  by_cases h : d = c ∧ k' = k
  · obtain ⟨rfl, rfl⟩ := h
    rw [if_pos ⟨rfl, rfl⟩, if_pos ⟨rfl, rfl⟩]
  · rw [if_neg h, if_neg fun h' => h ?_]
    have := kcell_injective h'.1
    exact ⟨(congrArg Prod.fst this).symm, (congrArg Prod.snd this).symm⟩

/-- Of one payment by every device, each to the semaphore `k'` of the device a turn away, the semaphore `k` of device `c`
    gets one if it is that semaphore. -/
theorem turned (e : Dev nD ≃ Dev nD) (k' k : Cel) (c : Dev nD) :
    ∑ d : Dev nD, (unit1 (e d) k') (kcell (c, k)) () = if k' = k then amt k else 0 := by
  rw [e.sum_comp fun d => (unit1 d k') (kcell (c, k)) ()]
  simp only [unit1_at]
  by_cases h : k' = k
  · simp [h]
  · simp [h]

/-- What all devices together owe the semaphore `k` of device `c`. -/
theorem owed_sum (k : Cel) (c : Dev nD) :
    ∑ d : Dev nD, owed₀ d (kcell (c, k)) () = (∑ j : Fin 3, if some (.arecv j) = k then amt k else 0) + (∑ i : Fin 24, if some (.recv i) = k then amt k else 0)
      + (if none = k then amt k else 0) + (if none = k then amt k else 0) + (if none = k then amt k else 0) := by
  have hA : ∑ d : Dev nD, (∑ j : Fin 3, unit1 (fwd d j) (some (.arecv j))) (kcell (c, k)) () = ∑ j : Fin 3, if some (.arecv j) = k then amt k else 0 := by
    simp only [Finset.sum_apply, Finsupp.finset_sum_apply]
    rw [Finset.sum_comm]
    exact Finset.sum_congr rfl fun j _ => turned (turn j) _ k c
  have hS : ∑ d : Dev nD, (∑ i : Fin 24, unit1 (fwd d (far i)) (some (.recv i))) (kcell (c, k)) () = ∑ i : Fin 24, if some (.recv i) = k then amt k else 0 := by
    simp only [Finset.sum_apply, Finsupp.finset_sum_apply]
    rw [Finset.sum_comm]
    exact Finset.sum_congr rfl fun i _ => turned (turn (far i)) _ k c
  have hB (j : Fin 3) : ∑ d : Dev nD, (unit1 (bwd d j) none) (kcell (c, k)) () = if none = k then amt k else 0 := turned (turn j).symm none k c
  unfold owed₀ owedS owedA
  rw [show finFrom 3 0 = Finset.univ by decide, show finFrom 24 0 = Finset.univ by decide]
  simp only [Pi.add_apply, Finsupp.add_apply, Finset.sum_add_distrib]
  rw [hA, hS, hB, hB, hB]

theorem credit_at (k : Cel) (n : ℕ) (h : ∑ d : Dev nD, owed₀ d (kcell (c, k)) () = n) :
    tallyOn (kcell (c, k)) (launchCredit (Pipeline.owing owed₀) 0 (kcell (c, k))) = (tallyAt (kcell (c, k)) () n : CellTallies nD τ sig Unit) := by
  unfold tallyAt
  refine congrArg _ (Finsupp.ext fun u => ?_)
  rw [Subsingleton.elim u (), Pipeline.launchCredit_owing, Finsupp.single_eq_same, h]

theorem credit_bar : tallyOn (barC c) (launchCredit (Pipeline.owing owed₀) 0 (barC c)) = (tallyAt (barC c) () 3 : CellTallies nD τ sig Unit) :=
  credit_at c none 3 (by rw [owed_sum]; simp [amt])
theorem credit_recv (i : Fin 24) : tallyOn (recvC c i) (launchCredit (Pipeline.owing owed₀) 0 (recvC c i)) = unit1 c (some (.recv i)) :=
  credit_at c (some (.recv i)) _ (by rw [owed_sum]; simp)
theorem credit_arecv (j : Fin 3) : tallyOn (arecvC c j) (launchCredit (Pipeline.owing owed₀) 0 (arecvC c j)) = unit1 c (some (.arecv j)) :=
  credit_at c (some (.arecv j)) _ (by rw [owed_sum]; simp)

/-- Device `c`'s launch credit holds the credits its body waits with. -/
theorem creds_intro : (Pipeline.launchCred owed₀ c : sProp 𝕄) ⊢ creds (F := F) c := by
  have hsub : (Pipeline.launchCred owed₀ c : sProp 𝕄)
      ⊢ bigSep Finset.univ fun k : Cel => cred (tallyOn (kcell (c, k)) (launchCredit (Pipeline.owing owed₀) 0 (kcell (c, k)))) := by
    unfold Pipeline.launchCred
    refine (bigSep_subset (Finset.subset_univ (Finset.univ.map ⟨csem, csem_injective⟩))).trans ?_
    rw [bigSep_map]
    exact BI.Entails.refl _
  have hr : (bigSep Finset.univ fun i : Fin 24 => cred (tallyOn (recvC c i) (launchCredit (Pipeline.owing owed₀) 0 (recvC c i))) : sProp 𝕄)
      = bigSep Finset.univ fun i : Fin 24 => cred (unit1 c (some (.recv i))) := bigSep_congr fun i _ => by rw [credit_recv]
  refine hsub.trans ?_
  unfold creds
  rw [bigSep_cel, bigSep_own, bigSep_three fun j => cred (unit1 c (some (.arecv j))), ← hr, ← credit_bar, ← credit_arecv, ← credit_arecv, ← credit_arecv]
  iintro ⟨Hb, -, -, Hr, -, -, Ha⟩
  isplitl [Hb]; · iexact Hb
  isplitl [Hr]; · iexact Hr
  iexact Ha

end Cert.Mm

end
-- ==== Proof.Run.lean ====
/- The run: every device's body proved, the launch assembled. -/
module

public import proofs.«01_k».proof.Proof.Setup
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × Cel → ℕ)
variable (c : Dev nD) (R : PUnit → sProp (MT nD τ sig Unit (Elt F) ℕ UU ℕ))

variable (ρ : Dev nD → PrngReg)

/-! ## What each device starts from and ends in -/

/-- The arguments, the protocol's ghost state and the credits. -/
def start : sProp 𝕄 :=
  iprop((∃ K, recs m K ∗ pos (F := F) c ∗ toks (F := F) c) ∗ creds (F := F) c ∗ xAt m c fullShare ∗ wAt m c fullShare)

/-- What the pipeline knows of device `c`: its one result, whole, computed at the one point. -/
def dats (_ : Fin 1) (c : Dev nD) : Dat τ (Elt F) Unit ℕ UU ℕ cfg0 c where
  A w := m ((cfg0.win w).arr.view.loc (c : Thread nD τ))
  after w _ := match w with | ⟨0, _⟩ => outAt m c
  Φ t := match t with
    | ⟨0, _⟩ => iprop(start m c ∗ bufs (F := F) c)
    | ⟨_ + 1, _⟩ => left m c
  q _ := fullShare
  owed t := match t with
    | ⟨0, _⟩ => owed₀ c
    | ⟨_ + 1, _⟩ => 0

/-- The staged result, held as the pipeline holds it. -/
abbrev held (X : OutC F) : sProp 𝕄 :=
  iprop(∃ f : Buf (Elt F) ((c : Thread nD τ).loc cc0_stg0_0), ⌜f = X⌝ ∗ (((c : Thread nD τ).loc cc0_stg0_0) ↦{fullShare} f))

theorem owns_stage (X : OutC F) :
    (owns (Ix := Unit) (Name := ℕ) (U := UU) (Lvl := ℕ) (c : Thread nD τ) (Memref.whole cc0_stg0_0) fullShare X : sProp 𝕄) = held c X := by
  unfold owns
  simp only [Memref.view_whole, View.read_whole, View.set_whole]

/-- What the body is given, and what it leaves. -/
def bodyPre : sProp 𝕄 :=
  iprop((dats (F := F) m 0 c).Φ t0_0.castSucc ∗ (dats (F := F) m 0 c).owesAt () t0_0.castSucc
    ∗ ∃ d, held c ((dats (F := F) m 0 c).before (0 : Fin 1) t0_0 d))
def bodyPost : sProp 𝕄 :=
  iprop((dats (F := F) m 0 c).Φ t0_0.succ ∗ (dats (F := F) m 0 c).owesAt () t0_0.succ ∗ held c ((dats (F := F) m 0 c).after (0 : Fin 1) t0_0))

theorem at_start : (dats m 0 c).Φ t0_0.castSucc = iprop(start m c ∗ bufs (F := F) c) := rfl
theorem at_end : (dats m 0 c).Φ t0_0.succ = left m c := rfl
theorem leaves_out : (dats m 0 c).after (0 : Fin 1) t0_0 = outAt m c := rfl

theorem owes_in : (dats (F := F) m 0 c).owesAt () t0_0.castSucc ⊢ ow c (owed₀ c) := by
  unfold Dat.owesAt Pipeline.owesWithin ow
  iintro ⟨%W, -, H⟩
  iexists W
  iexact H
theorem owes_out : ow c 0 ⊢ (dats (F := F) m 0 c).owesAt () t0_0.succ := by
  unfold Dat.owesAt Pipeline.owesWithin ow
  iintro ⟨%W, H⟩
  iexists W
  isplitr
  · ipureintro
    exact fun _ _ => Or.inl trivial
  iexact H

theorem body_run (c : Dev nD) : bodyPre m c ⊢ WP c (body oM) (fun _ => bodyPost m c) := by
  unfold bodyPre
  rw [at_start]
  unfold start
  iintro ⟨⟨⟨⟨%K, HR, Hp, Ht⟩, Hc, Hx, Hw⟩, Hb⟩, HO, ⟨%d, %f, %hf, Ho⟩⟩
  ihave HO := (owes_in m c) $$ HO
  iapply (body_wp m K c (fun _ => bodyPost m c) f) $$ [HR Hp Ht Hc Hx Hw Hb HO Ho]
  · isplitl [HR]; · iexact HR
    isplitl [Hp]; · iexact Hp
    isplitl [Ht]; · iexact Ht
    isplitl [Hc]; · iexact Hc
    isplitl [HO]; · iexact HO
    isplitl [Hx]; · iexact Hx
    isplitl [Hw]; · iexact Hw
    isplitl [Hb]; · iexact Hb
    iexact Ho
  iintro ⟨HO, Ho, Hl⟩
  unfold bodyPost
  isplitl [Hl]; · iapply (ofEq (at_end m c).symm); iexact Hl
  isplitl [HO]; · iapply (owes_out m c); iexact HO
  iexists (outAt m c)
  isplitr; · ipureintro; exact (leaves_out m c).symm
  iexact Ho

set_option maxRecDepth 8000 in
/-- The body, as the pipeline runs it. -/
theorem body_ok (c : Dev nD) : BodyObligation (dats (F := F) m 0 c) (defs₀ (F := F)) 𝒱₀ () Set.univ := fun t => by
  rw [fin_N0 t]
  rw [bigSep_W0, bigSep_W0]
  have h := body_run m c
  simp only [owns_stage]
  have hs : (win0_0.stage (cfg0.slots t0_0 0) : Memref sig .tc .vmem S1024x2048 .f32) = oM := rfl
  have hd : (defs₀ (F := F) Proc.tc cfg0.body (cfg0.bodyArgs t0_0 (cfg0.slots t0_0)) : KProg F) = body oM :=
    (show (defs₀ (F := F) Proc.tc cfg0.body (cfg0.bodyArgs t0_0 (cfg0.slots t0_0)) : KProg F) = bodyAt0 t0_0 from rfl).trans
      ((body_eq (win0_0.stage (cfg0.slots t0_0 0)) (hstage0_0 0)).trans (congrArg body hs))
  have hw : WP c (body oM) (fun _ => bodyPost m c) ⊢ WP c (defs₀ (F := F) Proc.tc cfg0.body (cfg0.bodyArgs t0_0 (cfg0.slots t0_0))) (fun _ => bodyPost m c) :=
    ofEq (congrArg (fun p : KProg F => WP c p (fun _ => bodyPost m c)) hd.symm)
  have h' := h.trans hw
  unfold bodyPre at h'
  refine h'.trans ?_
  unfold bodyPost
  exact ofEq (by congr 1)

/-! ## The launch's side conditions -/

theorem ownSemFacts : Pipeline.OwnSemFacts cfg0.spec osem := by decide +kernel

theorem share_full (c : Dev nD) (w : Fin cfg0.W) : (dats m 0 c).share w = fullShare := by
  unfold Dat.share
  split <;> rfl

theorem start_intro : iprop(Pipeline.unscopedRestP Pipeline.Prefetch.none cfg0.spec c (fun b => m ((c : Thread nD τ).loc b)) ∗ levAts L lv
        ∗ Pipeline.launchCred owed₀ c ∗ prngReg c (ρ c) ∗ G' m c)
      ⊢ (|={Set.univ}=> iprop(start m c ∗ emp) : sProp 𝕄) := by
  rw [Pipeline.unscopedRestP_none, unscopedRest0_eq]
  unfold G' books start recs
  iintro ⟨⟨Hx, Hw⟩, Hl, Hc, -, ⟨%K, ⟨HI, Hr⟩, Hp, Ht⟩⟩
  ihave Hc := (creds_intro (F := F) c) $$ Hc
  imodintro
  isplitl
  · isplitl [HI Hr Hl Hp Ht]
    · iexists K
      isplitl [HI Hr Hl]
      · isplitl [HI]; · iexact HI
        isplitl [Hr]; · iexact Hr
        iexact Hl
      isplitl [Hp] <;> iassumption
    isplitl [Hc]; · iexact Hc
    isplitl [Hx]; · iexact Hx
    iexact Hw
  · iempintro

theorem enter : iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs (F := F) c) from rfl, scopedRest0_eq]
  unfold bufs anyS
  iintro ⟨Hs, -, Hr⟩
  isplitl [Hs]; · iexact Hs
  iexact Hr

/-- What a device leaves behind the pipeline's part: the barrier's semaphore at zero, and the arguments. -/
def after : sProp 𝕄 := iprop(unscopedSems0 c ∗ xAt m c fullShare ∗ wAt m c fullShare)

theorem leave : (dats m 0 c).Φ (Fin.last cfg0.N) ⊢ iprop(after m c ∗ Pipeline.ownSems0 osem c ∗ Pipeline.scopedRest cfg0.spec c) := by
  rw [show (dats m 0 c).Φ (Fin.last cfg0.N) = left m c from rfl, scopedRest0_eq]
  unfold left after bufs anyS
  rw [← sems_at_zero]
  iintro ⟨Hx, Hw, Hb, Ho, Hu⟩
  isplitl [Hx Hw Hu]
  · isplitl [Hu]; · iexact Hu
    isplitl [Hx] <;> iassumption
  isplitl [Ho]; · iexact Ho
  iexact Hb

theorem waits (c : Dev nD) : (levAts L lv : sProp 𝕄) ⊢ Pipeline.cellsWaits cfgs (dats m) () 0 c :=
  Pipeline.cellsWaits_intro cfgs (dats m) () 0 c fun w s t =>
    mayWait c _ 0 _ (by fin_cases w; fin_cases s; decide) (by
      rcases t with ⟨_ | _, ht⟩
      · exact above_owed₀ c
      · exact Above.zero 0)

/-- What is read off the final memory: the arguments as they were, the unscoped semaphores at zero. -/
def ends (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0) ∧ s.mem ((c : Thread nD τ).loc main_arg1) = m ((c : Thread nD τ).loc main_arg1)

theorem read_end (s' : Phys nD τ sig (Elt F)) : iprop(after m c ∗ emp ∗ SI s') ⊢ (|={Set.univ}=> iprop(⌜ends m c s'.mem⌝ ∗ SI s') : sProp 𝕄) := by
  unfold after
  iintro ⟨⟨Hu, Hx, Hw⟩, -, HS⟩
  icombine HS Hx gives %hx
  icombine HS Hw gives %hw
  imod (Pipeline.unscopedSems0_read (X := unscopedSems0 c) (c := c) fupd_intro s') $$ [Hu HS] with ⟨%hz, HS⟩
  · isplitl [Hu] <;> iassumption
  imodintro
  isplitr
  · ipureintro
    exact ⟨hz, Buf.eq_of_forall_mem_univ hx, Buf.eq_of_forall_mem_univ hw⟩
  iexact HS

/-! ## The run -/

/-- Device `c`'s result array after the run. -/
def final : Buf (Elt F) ((c : Thread nD τ).loc main_v1) := (dats m 0 c).arrAt (0 : Fin 1) cfg0.N

set_option maxRecDepth 8000 in
/-- At any float values, from any memory with every semaphore at zero, the kernel runs on the four devices without a
    fault, ends with its results computed, its arguments unchanged and every semaphore at zero. -/
theorem run_main : θ_run defs (onTc (τ := τ) (main (F := F))) ⟨m, fun _ => 0, ρ⟩
    (fun r => (∀ c : Dev nD, r.2.mem ((c : Thread nD τ).loc main_v1) = final m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_ok m c).loose) (hne := block_pos0) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := after m) (Z := fun _ => iprop(emp))
    (hX := fun c => start_intro m c ρ) (hin := enter m) (hout := leave m)
    (QY := ends m) (hY := read_end m)
    (hQ := fun _ h hs => ⟨fun c => ⟨(h c).1 (0 : Fin 1), (h c).2.2.2⟩, sem_eq_zero hs fun c => (h c).2.2.1⟩)

end Cert.Mm

end
-- ==== Proof.Frames.lean ====
/- The three frames: every device's run ends with its arguments unchanged and every semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run

@[expose] public section

noncomputable section

namespace Cert.Mm

open Idealize.ShloMosaic Idealize.SL.Sem

/-- At any float values the run leaves the arguments unchanged and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).2.2⟩, h.2⟩) (run_main m ρ)

/-- The two programs name the same body, -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
/-- and so the same labels. -/
theorem defs_eq : Cert.Kernel.defs (F := Bits) = Cert.KernelIdeal.defs (F := Bits) :=
  congrArg (Pipeline.defs (Cert.KernelIdeal.pcfgs (F := Bits))) defs₀_eq

/-- The kernel as printed, at the machine's floats. -/
theorem frame_kernel : Cert.quiescent_Kernel := fun m ρ _ => by
  rw [show Cert.Kernel.defs (F := Bits) = Cert.KernelIdeal.defs (F := Bits) from defs_eq]
  exact frame_any (F := Bits) m ρ

/-- The kernel over the extended reals. -/
theorem frame_kernelIdeal : Cert.quiescent_KernelIdeal := fun m ρ _ => frame_any (F := Ideal) m ρ

/-- The reference over the extended reals. -/
theorem frame_reference : Cert.quiescent_ReferenceIdeal := fun m ρ _ => Cert.ReferenceIdeal.Gen.frame m ρ

/-- No operation of the kernel was rewritten. -/
theorem preserves : Cert.preserves_Kernel_KernelIdeal := trivial

end Cert.Mm

end
-- ==== Proof.Rows.lean ====
/- The rows of one chunk of the result: what the additions and the quantiser's stores leave in them. An addition or a
   store for another chunk does not touch them, so a chunk's rows are settled by its own three additions and then by its
   own quantisation. -/
module

public import proofs.«01_k».proof.Proof.Contents
public import Idealize.ShloMosaic.Lib.ValueIdxCore

@[expose] public section

noncomputable section

namespace Cert.Mm

open Idealize.ShloMosaic Idealize.ShloMosaic.TcCoe Idealize.ShloMosaic.ValueIdx Idealize.SL.Sem Cert.KernelIdeal Cert.KernelIdeal.Gen

variable {F : FTy → Type} [FloatOps F]

/-! ## Reading and writing a chunk's rows -/

set_option backward.proofsInPublic true in
/-- The place in the result of place `x` of chunk `k`. -/
def rowAt (k : Fin 8) (x : S128x2048.Idx) : S1024x2048.Idx :=
  ix2 ⟨128 * k.val + (x 0).val, by have h : (x 0).val < 128 := (x 0).isLt; omega⟩ (x 1)

theorem emb_rows (k : Fin 8) (x : S128x2048.Idx) : (oM.access (rowsR k)).emb x = rowAt k x := by
  refine funext fun a => Fin.ext ?_
  match a with
  | ⟨0, _⟩ => show 128 * k.val + 1 * (x 0).val = 128 * k.val + (x 0).val; omega
  | ⟨1, _⟩ => show 0 + 1 * (x 1).val = (x 1).val; omega

/-- Every place of the result lies in some chunk. -/
theorem exists_rowAt (i : S1024x2048.Idx) : ∃ k x, i = rowAt k x := by
  have h0 : (i 0).val < 1024 := (i 0).isLt
  refine ⟨⟨(i 0).val / 128, by omega⟩, ix2 ⟨(i 0).val % 128, Nat.mod_lt _ (by decide)⟩ (i 1), ?_⟩
  refine funext fun a => Fin.ext ?_
  match a with
  | ⟨0, _⟩ => show (i 0).val = 128 * ((i 0).val / 128) + (i 0).val % 128; omega
  | ⟨1, _⟩ => rfl

theorem rowsRd_apply (k : Fin 8) (f : OutC F) (x : S128x2048.Idx) : rowsRd k f x = f (rowAt k x) := by
  have h : rowsRd k f x = f ((oM.access (rowsR k)).emb x) := rfl
  rw [h, emb_rows]

/-- A chunk's rows read back are what was written over them; -/
theorem rowsRd_rowsWr (k : Fin 8) (f : OutC F) (v : FVec F S128x2048 .f32) : rowsRd k (rowsWr k f v) = v := by
  unfold rowsRd rowsWr
  exact View.read_write_univ _ _

/-- another chunk's are as before. -/
theorem rowsRd_rowsWr_ne {k k' : Fin 8} (h : k ≠ k') (f : OutC F) (v : FVec F S128x2048 .f32) :
    rowsRd k (rowsWr k' f v) = rowsRd k f := by
  funext x
  rw [rowsRd_apply, rowsRd_apply]
  unfold rowsWr
  refine View.write_of_not_mem _ _ _ fun hm => ?_
  obtain ⟨y, -, hy⟩ := Finset.mem_map.mp hm
  rw [emb_rows] at hy
  have h0 : 128 * k'.val + (y 0).val = 128 * k.val + (x 0).val := congrArg (fun i : S1024x2048.Idx => (i 0).val) hy
  have hx : (x 0).val < 128 := (x 0).isLt
  have hy' : (y 0).val < 128 := (y 0).isLt
  exact h (Fin.ext (by omega))

/-! ## After the additions -/

variable (m : (ℓ : Loc nD τ sig) → Buf (Elt F) ℓ) (c : Dev nD)

/-- One addition into chunk `k`'s rows. -/
def step (k : Fin 8) (f : Fin 3) (v : FVec F S128x2048 .f32) : FVec F S128x2048 .f32 :=
  mulAdd v (xIn m c (copyNo f k)) (wIn m c (flowW f))

theorem rows_here {k : Fin 8} {f : Fin 3} {n : ℕ} (hn : n = 3 * k.val + f.val) :
    rowsRd k (outN m c (n + 1)) = step m c k f (rowsRd k (outN m c n)) := by
  subst hn
  have hk : kOf (3 * k.val + f.val) = k := Fin.ext (by show (3 * k.val + f.val) / 3 % 8 = k.val; omega)
  have hf : fOf (3 * k.val + f.val) = f := Fin.ext (by show (3 * k.val + f.val) % 3 = f.val; omega)
  unfold step
  rw [outN, hk, hf, rowsRd_rowsWr]

theorem rows_there {k : Fin 8} {n : ℕ} (hn : n < 24) (h : n < 3 * k.val ∨ 3 * k.val + 3 ≤ n) :
    rowsRd k (outN m c (n + 1)) = rowsRd k (outN m c n) := by
  rw [outN]
  refine rowsRd_rowsWr_ne (fun he => ?_) _ _
  have hk : k.val = n / 3 % 8 := congrArg Fin.val he
  omega

theorem rows_before (k : Fin 8) : ∀ n ≤ 3 * k.val, rowsRd k (outN m c n) = rowsRd k (outN m c 0)
  | 0, _ => rfl
  | n + 1, h => (rows_there m c (by omega) (.inl (by omega))).trans (rows_before k n (by omega))

theorem rows_after (k : Fin 8) : ∀ n, 3 * k.val + 3 + n ≤ 24 → rowsRd k (outN m c (3 * k.val + 3 + n)) = rowsRd k (outN m c (3 * k.val + 3))
  | 0, _ => rfl
  | n + 1, h => (rows_there m c (n := 3 * k.val + 3 + n) (by omega) (.inr (by omega))).trans (rows_after k n (by omega))

/-- Chunk `k`'s rows right after its three additions are its rows after all of them, -/
theorem rows_settled (k : Fin 8) : rowsRd k (outN m c (3 * k.val + 3)) = rowsRd k (outN m c 24) := by
  have h := rows_after m c k (24 - (3 * k.val + 3)) (by omega)
  rw [show 3 * k.val + 3 + (24 - (3 * k.val + 3)) = 24 by omega] at h
  exact h.symm

/-- and are the own product's with the three flows' products added in turn. -/
theorem rows_sum (k : Fin 8) :
    rowsRd k (outN m c 24) = step m c k 2 (step m c k 1 (step m c k 0 (rowsRd k (outN m c 0)))) := by
  rw [← rows_settled, rows_here m c (k := k) (f := 2) (n := 3 * k.val + 2) rfl, rows_here m c (k := k) (f := 1) (n := 3 * k.val + 1) rfl,
    rows_here m c (k := k) (f := 0) (n := 3 * k.val) rfl, rows_before m c k _ (le_refl _)]

/-! ## After the quantiser's stores -/

theorem kOf_three (k : Fin 8) : kOf (3 * k.val) = k := Fin.ext (by show 3 * k.val / 3 % 8 = k.val; omega)

theorem quant_there {k : Fin 8} {n : ℕ} (hn : n < 8) (h : n ≠ k.val) : rowsRd k (quantN m c (n + 1)) = rowsRd k (quantN m c n) := by
  rw [quantN]
  refine rowsRd_rowsWr_ne (fun he => ?_) _ _
  have hk : k.val = 3 * n / 3 % 8 := congrArg Fin.val he
  omega

theorem quant_before (k : Fin 8) : ∀ n ≤ k.val, rowsRd k (quantN m c n) = rowsRd k (outN m c 24)
  | 0, _ => by rw [quantN]
  | n + 1, h => (quant_there m c (by omega) (by omega)).trans (quant_before k n (by omega))

theorem quant_after (k : Fin 8) : ∀ n, k.val + 1 + n ≤ 8 → rowsRd k (quantN m c (k.val + 1 + n)) = rowsRd k (quantN m c (k.val + 1))
  | 0, _ => rfl
  | n + 1, h => (quant_there m c (n := k.val + 1 + n) (by omega) (by omega)).trans (quant_after k n (by omega))

/-- Chunk `k`'s rows of the result: the quantiser's value of its rows after the additions. -/
theorem rows_result (k : Fin 8) : rowsRd k (outAt m c) = k0_pay54 (amaxC m c) (rowsRd k (outN m c 24)) := by
  have h := quant_after m c k (8 - (k.val + 1)) (by omega)
  rw [show k.val + 1 + (8 - (k.val + 1)) = 8 by omega] at h
  unfold outAt
  rw [h, quantN, kOf_three, rowsRd_rowsWr, quant_before m c k _ (le_refl _)]

end Cert.Mm

end
-- ==== Proof.Quant.lean ====
/- The quantiser at the extended reals: the maxima it takes, bounded from above element by element, and the value it
   gives each element, the same whether the product is divided by the scale or multiplied by the scale's inverse. -/
module

public import proofs.«01_k».proof.Proof.Contents
public import Idealize.ShloMosaic.PureOps.Ideal.Laws
public import Idealize.ShloMosaic.Lib.ValueIdxCore

@[expose] public section

noncomputable section

namespace Cert.Mm

open Idealize.ShloMosaic Idealize.ShloMosaic.TcCoe Idealize.ShloMosaic.ValueIdx Idealize.SL.Sem Cert.KernelIdeal Cert.KernelIdeal.Gen

/-! ## Maxima -/

/-- The absolute value. -/
def mag (x : EReal) : EReal := max x (-x)

theorem ofBits_bot : (FloatOps.ofBits (F := Ideal) .f32 0xFF800000#32 : EReal) = ⊥ := by
  show Ideal.ofBits .f32 0xFF800000#32 = ⊥
  simp [Ideal.ofBits, Ideal.ieee]

theorem ofBits_448 : (FloatOps.ofBits (F := Ideal) .f32 0x43E00000#32 : EReal) = ((448 : ℝ) : EReal) := by
  show Ideal.ofBits .f32 0x43E00000#32 = _
  simp [Ideal.ofBits, Ideal.ieee]
  norm_num
  rw [← EReal.coe_mul]
  norm_num

theorem ofBits_neg448 : (FloatOps.ofBits (F := Ideal) .f32 0xC3E00000#32 : EReal) = ((-448 : ℝ) : EReal) := by
  show Ideal.ofBits .f32 0xC3E00000#32 = _
  simp [Ideal.ofBits, Ideal.ieee]
  norm_num
  rw [← EReal.coe_mul]
  norm_num

/-- A maximum into a shape of one element is at most `b` exactly when every element is. -/
theorem multiReduction_le {s t : Shape} {axes : List (Fin s.rank)} (x : FVec Ideal s .f32) (h : s.Reduces axes t)
    (ht : ∀ b, t.size b = 1) (hφ : FKind.Formats .f32) (hacc : (0xFF800000#32 : BitVec 32) = FKind.maximumf.neutral .f32 hφ) (j : t.Idx) (b : EReal) :
    multiReduction .maximumf axes t x 0xFF800000#32 h hφ hacc j ≤ b ↔ ∀ i, x i ≤ b := by
  rw [multiReduction_maximumf_eq_fold, Finset.filter_true_of_mem fun i _ => funext fun b => Fin.ext (by
    have := (h.drop i b).isLt; have := (j b).isLt; have := ht b; omega), ofBits_bot]
  refine (Finset.fold_max_le (b := (⊥ : EReal)) (f := x) b).trans ?_
  simp

/-- The same for the host's maximum. -/
theorem reduce_le {s t u : Shape} {axes : List (Fin s.rank)} (x : FVec Ideal s .f32) (h : s.ReducesTo axes t)
    (ht : ∀ b, t.size b = 1) (hu : 0 < u.numel) (j : t.Idx) (b : EReal) :
    Host.reduce FloatOps.maximumf x (constant u .f32 0xFF800000#32) h hu j ≤ b ↔ ∀ i, x i ≤ b := by
  rw [Host.reduce_eq_fold, Finset.filter_true_of_mem fun i _ => funext fun b => Fin.ext (by
    have := (h.drop i b).isLt; have := (j b).isLt; have := ht b; omega)]
  show Finset.fold max (FloatOps.ofBits (F := Ideal) .f32 0xFF800000#32) x Finset.univ ≤ b ↔ _
  rw [ofBits_bot]
  refine (Finset.fold_max_le (b := (⊥ : EReal)) (f := x) b).trans ?_
  simp

/-- A bound on every element of a reshaped vector bounds every element of the vector. -/
theorem forall_shapeCast {α : Type} {s t : Shape} (x : s.Idx → α) (h : s.ShapeCasts t) (p : α → Prop) :
    (∀ j, p (shapeCast t x h j)) ↔ ∀ i, p (x i) := by
  constructor
  · intro H i
    have := H ((Shape.reshapeEquiv h).symm i)
    unfold shapeCast at this
    rwa [Equiv.apply_symm_apply] at this
  · intro H j
    exact H _

/-- A vector's maximum, taken out of its one element, is at most `b` exactly when every element is. -/
theorem extract_le {s t : Shape} {axes : List (Fin s.rank)} (x : FVec Ideal s .f32) (h : s.Reduces axes S1) (h' : S1.ShapeCasts t)
    (hφ : FKind.Formats .f32) (hacc : (0xFF800000#32 : BitVec 32) = FKind.maximumf.neutral .f32 hφ) (pos : Fin t.rank → ℕ) (hp : ∀ a, pos a < t.size a) (b : EReal) :
    extractAt pos (shapeCast t (multiReduction .maximumf axes S1 x 0xFF800000#32 h hφ hacc) h') hp ≤ b ↔ ∀ i, x i ≤ b :=
  multiReduction_le x h (by decide) hφ hacc _ b

/-- A chunk's maximum is at most `b` exactly when every magnitude in it is. -/
theorem pay8_le (v : FVec Ideal S128x2048 .f32) (b : EReal) : k0_pay8 (F := Ideal) v ≤ b ↔ ∀ i, mag (v i) ≤ b := by
  unfold k0_pay8
  refine (extract_le _ _ _ _ _ _ _ b).trans ?_
  refine (forall_shapeCast _ _ (· ≤ b)).trans ?_
  exact forall_shapeCast v shapeCasts_S128x2048_S128x2048 (fun a => mag a ≤ b)

/-- The maximum of the exchanged maxima is at most `b` exactly when every one of them is. -/
theorem pay51_le (v : FVec Ideal S4x8x128 .f32) (b : EReal) : k0_pay51 (F := Ideal) v ≤ b ↔ ∀ i, v i ≤ b := by
  unfold k0_pay51
  refine (extract_le _ _ _ _ _ _ _ b).trans ?_
  exact forall_shapeCast _ _ (· ≤ b)

/-! ## One element -/

/-- The kernel's value of a product `y` under the maximum `g`: scaled by the inverse of the scale, then by the scale. -/
def quantK (g y : EReal) : EReal := y * Ideal.div (448 : ℝ) g * Ideal.div g (448 : ℝ)

/-- The reference's: divided by the scale, clipped, multiplied by the scale. -/
def quantR (g y : EReal) : EReal :=
  min ((448 : ℝ) : EReal) (max ((-448 : ℝ) : EReal) (Ideal.div y (Ideal.div g (448 : ℝ)))) * Ideal.div g (448 : ℝ)

theorem pay54_apply (g : FVec Ideal S4x8x128 .f32) (v : FVec Ideal S128x2048 .f32) (x : S128x2048.Idx) :
    k0_pay54 (F := Ideal) g v x = quantK (k0_pay51 (F := Ideal) g) (v x) := by
  unfold quantK k0_pay54 k0_pay53 k0_pay52
  rw [← ofBits_448]
  generalize k0_pay51 (F := Ideal) g = G
  have h : shapeCast S128x2048 v shapeCasts_S128x2048_S128x2048 x = v x := by
    unfold shapeCast
    rw [Shape.reshapeEquiv_self]
  rw [← h]
  rfl

/-- For a product no larger in magnitude than the maximum the two agree: where the maximum is finite and positive both
    are the product, at zero both are zero, and at infinity both are zero. -/
theorem quant_eq {g y : EReal} (h : mag y ≤ g) : quantK g y = quantR g y := by
  unfold mag at h
  have hy : y ≤ g := le_trans (le_max_left _ _) h
  have hy' : -y ≤ g := le_trans (le_max_right _ _) h
  have hg : 0 ≤ g := by
    rcases le_total 0 y with h0 | h0
    · exact le_trans h0 hy
    · exact le_trans (EReal.neg_nonneg.mpr h0) hy'
  have h448 : ((448 : ℝ) : EReal) ≠ 0 := by norm_num
  unfold quantK quantR Ideal.div
  rw [if_neg h448]
  induction g with
  | bot => simp at hg
  | top =>
    have ht : (⊤ : EReal) * ((448 : ℝ) : EReal)⁻¹ = ⊤ := by
      rw [← EReal.coe_inv]; exact EReal.top_mul_coe_of_pos (by norm_num)
    rw [ht]
    simp
  | coe g =>
    have hg' : (0 : ℝ) ≤ g := by exact_mod_cast hg
    induction y with
    | bot => simp at hy'
    | top => simp at hy
    | coe y =>
      have h1 : y ≤ g := by exact_mod_cast hy
      have h2 : -y ≤ g := by exact_mod_cast hy'
      rcases hg'.eq_or_lt with h0 | h0
      · subst h0
        have : y = 0 := by linarith
        subst this
        simp
      · have hgne : ((g : ℝ) : EReal) ≠ 0 := by exact_mod_cast h0.ne'
        have hs : (g : EReal) * ((448 : ℝ) : EReal)⁻¹ = ((g * (448 : ℝ)⁻¹ : ℝ) : EReal) := by
          rw [← EReal.coe_inv, ← EReal.coe_mul]
        have hs0 : 0 < g * (448 : ℝ)⁻¹ := by positivity
        have hsne : ((g * (448 : ℝ)⁻¹ : ℝ) : EReal) ≠ 0 := by exact_mod_cast hs0.ne'
        rw [hs, if_neg hgne, if_neg hsne, ← EReal.coe_inv, ← EReal.coe_inv, ← EReal.coe_mul, ← EReal.coe_mul, ← EReal.coe_mul, ← EReal.coe_mul]
        have e1 : (-448 : ℝ) ≤ y * (g * (448 : ℝ)⁻¹)⁻¹ := by
          rw [← div_eq_mul_inv, le_div_iff₀ hs0]; linarith [mul_comm g (448 : ℝ)⁻¹]
        have e2 : y * (g * (448 : ℝ)⁻¹)⁻¹ ≤ 448 := by
          rw [← div_eq_mul_inv, div_le_iff₀ hs0]; linarith [mul_comm g (448 : ℝ)⁻¹]
        rw [max_eq_right (EReal.coe_le_coe_iff.mpr e1), min_eq_right (EReal.coe_le_coe_iff.mpr e2), ← EReal.coe_mul]
        congr 1
        field_simp

end Cert.Mm

end
-- ==== Proof.Dot.lean ====
/- The matrix product at the extended reals: the device's own product and the three flows' products, chunk by chunk, add
   up to the device's rows of the whole product. Device `c` receives from the device `d` the rows it owns of the columns
   `d` holds, and multiplies them by the rows of `w` those columns meet. -/
module

public import proofs.«01_k».proof.Proof.Rows
public import Idealize.ShloMosaic.Lib.MatmulPlain
public import Idealize.ShloMosaic.Lib.Layout

@[expose] public section

noncomputable section

namespace Cert.Mm

open Idealize.ShloMosaic Idealize.ShloMosaic.TcCoe Idealize.ShloMosaic.ValueIdx Idealize.SL.Sem Cert.KernelIdeal Cert.KernelIdeal.Gen

/-! ## Where each block lies -/

theorem far_copyNo (f : Fin 3) (k : Fin 8) : far (copyNo f k) = flowR f.val := by revert f k; decide

theorem own_off (c : Dev nD) : k0_off2 c 0 = 1024 * c.val ∧ k0_off2 c 1 = 0 := by revert c; decide +kernel

theorem w_off_own (c : Dev nD) : wOff c 0 0 = 1024 * c.val ∧ wOff c 0 1 = 0 := by revert c; decide +kernel

/-- Flow `f` meets the rows of `w` that belong to the device the flow comes from. -/
theorem w_off_flow (c : Dev nD) (f : Fin 3) : wOff c (flowW f) 0 = 1024 * (bwd c (flowR f.val)).val ∧ wOff c (flowW f) 1 = 0 := by
  revert c f; decide +kernel

/-- What device `c` receives are its own rows of the sender's columns. -/
theorem x_off (c : Dev nD) (f : Fin 3) (k : Fin 8) :
    k0_off1 (bwd c (far (copyNo f k))) (BitVec.ofNat 32 (1 + (flowR ((copyNo f k).val / 8)).val)) (BitVec.ofNat 32 (128 * ((copyNo f k).val % 8))) 0
      = 1024 * c.val + 128 * k.val
    ∧ k0_off1 (bwd c (far (copyNo f k))) (BitVec.ofNat 32 (1 + (flowR ((copyNo f k).val / 8)).val)) (BitVec.ofNat 32 (128 * ((copyNo f k).val % 8))) 1 = 0 := by
  revert c f k; decide +kernel

variable (m : (ℓ : Loc nD τ sig) → Buf (Elt Ideal) ℓ) (c : Dev nD)

theorem xOwn_apply (r : Fin 1024) (q : Fin 1024) :
    xOwn m c (ix2 r q) = mx m c (ix2 (n0 := 4096) (n1 := 1024) ⟨1024 * c.val + r.val, by have h : c.val < 4 := c.isLt; omega⟩ q) := by
  refine congrArg (mx m c) (show (xOwnV c).view.emb (ix2 r q) = _ from funext fun a => Fin.ext ?_)
  match a with
  | ⟨0, _⟩ => show k0_off2 c 0 + 1 * r.val = 1024 * c.val + r.val; rw [(own_off c).1]; omega
  | ⟨1, _⟩ => show k0_off2 c 1 + 1 * q.val = q.val; rw [(own_off c).2]; omega

theorem xIn_apply (f : Fin 3) (k : Fin 8) (a : Fin 128) (q : Fin 1024) :
    xIn m c (copyNo f k) (ix2 a q) = mx m (bwd c (flowR f.val))
      (ix2 (n0 := 4096) (n1 := 1024) ⟨1024 * c.val + (128 * k.val + a.val), by have h : c.val < 4 := c.isLt; omega⟩ q) := by
  rw [← far_copyNo f k]
  refine congrArg (mx m (bwd c (far (copyNo f k)))) (show (xV (bwd c (far (copyNo f k))) (copyNo f k)).view.emb (ix2 a q) = _ from funext fun b => Fin.ext ?_)
  match b with
  | ⟨0, _⟩ =>
    show k0_off1 (bwd c (far (copyNo f k))) (BitVec.ofNat 32 (1 + (flowR ((copyNo f k).val / 8)).val)) (BitVec.ofNat 32 (128 * ((copyNo f k).val % 8))) 0
      + 1 * a.val = 1024 * c.val + (128 * k.val + a.val)
    rw [(x_off c f k).1]; omega
  | ⟨1, _⟩ =>
    show k0_off1 (bwd c (far (copyNo f k))) (BitVec.ofNat 32 (1 + (flowR ((copyNo f k).val / 8)).val)) (BitVec.ofNat 32 (128 * ((copyNo f k).val % 8))) 1
      + 1 * q.val = q.val
    rw [(x_off c f k).2]; omega

theorem wIn_apply (j : Fin 4) (d : Dev nD) (h : wOff c j 0 = 1024 * d.val ∧ wOff c j 1 = 0) (q : Fin 1024) (n : Fin 2048) :
    wIn m c j (ix2 q n) = mw m c (ix2 (n0 := 4096) (n1 := 2048) ⟨1024 * d.val + q.val, by have h : d.val < 4 := d.isLt; omega⟩ n) := by
  refine congrArg (mw m c) (show (wV c j).view.emb (ix2 q n) = _ from funext fun b => Fin.ext ?_)
  match b with
  | ⟨0, _⟩ => show wOff c j 0 + 1 * q.val = 1024 * d.val + q.val; rw [h.1]; omega
  | ⟨1, _⟩ => show wOff c j 1 + 1 * n.val = n.val; rw [h.2]; omega

/-! ## The products -/

theorem mulOwn_apply (X : FVec Ideal S1024x1024 .f32) (W : FVec Ideal S1024x2048 .f32) (r : Fin 1024) (n : Fin 2048) :
    mulOwn X W (ix2 r n) = ∑ q : Fin 1024, X (ix2 r q) * W (ix2 q n) := by
  refine (Ideal.matmul_plain_apply (M := 1024) (K := 1024) (N := 2048) none X W (constant S1024x2048 .f32 0x00000000#32) r n).trans ?_
  rw [show (constant (F := Ideal) S1024x2048 .f32 0x00000000#32 (ix2 r n) : EReal) = 0 from Ideal.ofBits_zero_f32, zero_add]

theorem mulAdd_apply (v : FVec Ideal S128x2048 .f32) (X : FVec Ideal S128x1024 .f32) (W : FVec Ideal S1024x2048 .f32) (r : Fin 128) (n : Fin 2048) :
    mulAdd v X W (ix2 r n) = v (ix2 r n) + ∑ q : Fin 1024, X (ix2 r q) * W (ix2 q n) := by
  have h := Ideal.matmul_plain_apply (M := 128) (K := 1024) (N := 2048) none X W (constant S128x2048 .f32 0x00000000#32) r n
  rw [show (constant (F := Ideal) S128x2048 .f32 0x00000000#32 (ix2 r n) : EReal) = 0 from Ideal.ofBits_zero_f32, zero_add] at h
  have h' : shapeCast S128x2048 v shapeCasts_S128x2048_S128x2048 (ix2 r n) = v (ix2 r n) := by
    unfold shapeCast
    rw [Shape.reshapeEquiv_self]
  rw [← h, ← h']
  rfl

/-! ## The whole product -/

/-- The part of row `r`, column `n` of the product that device `d`'s columns of `x` give. -/
def part (X : (⟨2, ![4096, 4096]⟩ : Shape).Idx → EReal) (W : (⟨2, ![4096, 2048]⟩ : Shape).Idx → EReal) (r : Fin 4096) (n : Fin 2048) (d : Dev nD) : EReal :=
  ∑ q : Fin 1024, X (ix2 r ⟨1024 * d.val + q.val, by have h : d.val < 4 := d.isLt; omega⟩)
    * W (ix2 (n0 := 4096) (n1 := 2048) ⟨1024 * d.val + q.val, by have h : d.val < 4 := d.isLt; omega⟩ n)

/-- Row `r`, column `n` of the product. -/
def prod (X : (⟨2, ![4096, 4096]⟩ : Shape).Idx → EReal) (W : (⟨2, ![4096, 2048]⟩ : Shape).Idx → EReal) (r : Fin 4096) (n : Fin 2048) : EReal :=
  ∑ k : Fin 4096, X (ix2 r k) * W (ix2 k n)

/-- The product is its four parts together. -/
theorem prod_parts (X : (⟨2, ![4096, 4096]⟩ : Shape).Idx → EReal) (W : (⟨2, ![4096, 2048]⟩ : Shape).Idx → EReal) (r : Fin 4096) (n : Fin 2048) :
    prod X W r n = ∑ d : Fin 4, part X W r n d := by
  unfold prod part
  rw [← Fintype.sum_prod_type' (f := fun (d : Fin 4) (q : Fin 1024) => X (ix2 r ⟨1024 * d.val + q.val, by omega⟩)
    * W (ix2 (n0 := 4096) (n1 := 2048) ⟨1024 * d.val + q.val, by omega⟩ n))]
  refine (Equiv.sum_comp (finProdFinEquiv (m := 4) (n := 1024)) (fun k : Fin 4096 => X (ix2 r k) * W (ix2 k n))).symm.trans ?_
  refine Finset.sum_congr rfl fun p _ => ?_
  have h : (finProdFinEquiv (m := 4) (n := 1024) p : Fin 4096) = ⟨1024 * p.1.val + p.2.val, by omega⟩ :=
    Fin.ext (by show p.2.val + 1024 * p.1.val = 1024 * p.1.val + p.2.val; omega)
  rw [h]

/-- The device itself and the three its flows come from are the four devices. -/
theorem four_parts (p : Fin 4 → EReal) :
    p c + p (bwd c (flowR (0 : Fin 3).val)) + p (bwd c (flowR (1 : Fin 3).val)) + p (bwd c (flowR (2 : Fin 3).val)) = ∑ d : Fin 4, p d := by
  have h : ∀ c : Fin 4, Finset.univ = ({c, bwd c (flowR (0 : Fin 3).val), bwd c (flowR (1 : Fin 3).val), bwd c (flowR (2 : Fin 3).val)} : Finset (Fin 4)) := by decide
  have h1 : ∀ c : Fin 4, c ∉ ({bwd c (flowR (0 : Fin 3).val), bwd c (flowR (1 : Fin 3).val), bwd c (flowR (2 : Fin 3).val)} : Finset (Fin 4)) := by decide
  have h2 : ∀ c : Fin 4, bwd c (flowR (0 : Fin 3).val) ∉ ({bwd c (flowR (1 : Fin 3).val), bwd c (flowR (2 : Fin 3).val)} : Finset (Fin 4)) := by decide
  have h3 : ∀ c : Fin 4, bwd c (flowR (1 : Fin 3).val) ∉ ({bwd c (flowR (2 : Fin 3).val)} : Finset (Fin 4)) := by decide
  rw [h c, Finset.sum_insert (h1 c), Finset.sum_insert (h2 c), Finset.sum_insert (h3 c), Finset.sum_singleton]
  simp only [add_assoc]

variable (X : (⟨2, ![4096, 4096]⟩ : Shape).Idx → EReal) (W : (⟨2, ![4096, 2048]⟩ : Shape).Idx → EReal)

/-- Each device holds its block of columns of `X` and the whole of `W`. -/
def Holds : Prop :=
  (∀ c : Dev nD, mx m c = Layout.block ⟨2, ![4096, 1024]⟩ ⟨2, ![4096, 4096]⟩ 1 4 c X) ∧ ∀ c : Dev nD, mw m c = W

variable {m X W}

theorem Holds.x_apply (h : Holds m X W) (d : Dev nD) (r : Fin 4096) (q : Fin 1024) :
    mx m d (ix2 r q) = X (ix2 r ⟨1024 * d.val + q.val, by have h : d.val < 4 := d.isLt; omega⟩) := by
  rw [h.1 d, Layout.block_apply]
  refine congrArg X (funext fun a => Fin.ext ?_)
  match a with
  | ⟨0, _⟩ => rfl
  | ⟨1, _⟩ => show d.val * 1024 + q.val = 1024 * d.val + q.val; omega

/-- Row `a` of chunk `k` of device `c`, in the whole product. -/
def rowOf (c : Dev nD) (k : Fin 8) (a : Fin 128) : Fin 4096 :=
  ⟨1024 * c.val + (128 * k.val + a.val), by have h : c.val < 4 := c.isLt; omega⟩

theorem own_part (h : Holds m X W) (k : Fin 8) (a : Fin 128) (n : Fin 2048) :
    rowsRd k (outN m c 0) (ix2 a n) = part X W (rowOf c k a) n c := by
  rw [rowsRd_apply, outN]
  refine (mulOwn_apply (xOwn m c) (wIn m c 0) ⟨128 * k.val + a.val, by omega⟩ n).trans ?_
  unfold part
  refine Finset.sum_congr (M := EReal) rfl fun q _ => ?_
  rw [xOwn_apply, wIn_apply m c 0 c (w_off_own c), h.x_apply, h.2 c]
  rfl

theorem flow_part (h : Holds m X W) (k : Fin 8) (f : Fin 3) (v : FVec Ideal S128x2048 .f32) (a : Fin 128) (n : Fin 2048) :
    step m c k f v (ix2 a n) = v (ix2 a n) + part X W (rowOf c k a) n (bwd c (flowR f.val)) := by
  unfold step
  rw [mulAdd_apply]
  refine congrArg (fun z : EReal => v (ix2 a n) + z) (Finset.sum_congr (M := EReal) rfl fun q _ => ?_)
  rw [xIn_apply, wIn_apply m c (flowW f) (bwd c (flowR f.val)) (w_off_flow c f), h.x_apply, h.2 c]
  rfl

/-- After the additions a chunk holds its rows of the whole product. -/
theorem rows_prod (h : Holds m X W) (k : Fin 8) (a : Fin 128) (n : Fin 2048) :
    rowsRd k (outN m c 24) (ix2 a n) = prod X W (rowOf c k a) n := by
  rw [rows_sum, flow_part c h, flow_part c h, flow_part c h, own_part c h, prod_parts]
  exact four_parts c (part X W (rowOf c k a) n)

end Cert.Mm

end
-- ==== Proof.Amax.lean ====
/- The maximum the devices exchange is the largest magnitude in the whole product: each device's running maximum bounds
   its eight chunks, and the four devices' chunks are all the product's rows. -/
module

public import proofs.«01_k».proof.Proof.Rows
public import proofs.«01_k».proof.Proof.Quant
public import proofs.«01_k».proof.Proof.Dot

@[expose] public section

noncomputable section

namespace Cert.Mm

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The maximum of one settled chunk is at most `b` exactly when every magnitude in the chunk is. -/
theorem chunk_le (k : Fin 8) (b : EReal) :
    k0_pay8 (F := Ideal) (rowsRd (kOf (3 * k.val)) (outN m c (3 * k.val + 3))) ≤ b ↔ ∀ x, mag (rowsRd k (outN m c 24) x) ≤ b := by
  rw [kOf_three, rows_settled]
  exact pay8_le _ b

/-- The running maximum is at most `b` exactly when every magnitude in the chunks so far is. -/
theorem amaxN_le (b : EReal) : ∀ n (_ : n < 8), amaxN m c n ≤ b ↔ ∀ k : Fin 8, k.val ≤ n → ∀ x, mag (rowsRd k (outN m c 24) x) ≤ b
  | 0, _ => by
    rw [amaxN]
    refine (chunk_le m c 0 b).trans ⟨fun h k hk => ?_, fun h => h 0 (le_refl _)⟩
    obtain rfl : k = 0 := Fin.ext (by simpa using hk)
    exact h
  | n + 1, hn => by
    have ih := amaxN_le b n (by omega)
    have hc := chunk_le m c ⟨n + 1, hn⟩ b
    rw [amaxN]
    refine (max_le_iff (α := EReal)).trans ((and_congr ih hc).trans ⟨fun h k hk => ?_, fun h => ⟨fun k hk => h k (by omega), h ⟨n + 1, hn⟩ (le_refl _)⟩⟩)
    rcases Nat.lt_or_ge n k.val with h' | h'
    · obtain rfl : k = ⟨n + 1, hn⟩ := Fin.ext (by show k.val = n + 1; omega)
      exact h.2
    · exact h.1 k h'

/-- Every device's maximum is in the buffer of maxima of each. -/
theorem exists_amaxOf (d : Dev nD) : ∃ j, amaxOf c j = d := by revert c d; decide

/-- Every row of the product is a row of some chunk of some device. -/
theorem exists_rowOf (r : Fin 4096) : ∃ d k a, r = rowOf d k a :=
  ⟨(⟨r.val / 1024, by omega⟩ : Fin 4), ⟨r.val % 1024 / 128, by omega⟩, ⟨r.val % 128, by omega⟩,
    Fin.ext (by show r.val = 1024 * (r.val / 1024) + (128 * (r.val % 1024 / 128) + r.val % 128); omega)⟩

variable {m} {X : (⟨2, ![4096, 4096]⟩ : Shape).Idx → EReal} {W : (⟨2, ![4096, 2048]⟩ : Shape).Idx → EReal}

/-- The maximum each device ends with is at most `b` exactly when every magnitude in the product is. -/
theorem amax_le (h : Holds m X W) (b : EReal) :
    k0_pay51 (F := Ideal) (amaxC m c) ≤ b ↔ ∀ r n, mag (prod X W r n) ≤ b := by
  refine (pay51_le _ b).trans ⟨fun H r n => ?_, fun H i => ?_⟩
  · obtain ⟨d, k, a, rfl⟩ := exists_rowOf r
    obtain ⟨j, hj⟩ := exists_amaxOf c d
    have H' : amaxN m (amaxOf c j) 7 ≤ b := H (ix3 j 0 0)
    rw [hj] at H'
    rw [← rows_prod d h]
    exact (amaxN_le m d b 7 (by omega)).mp H' k (by omega) (ix2 a n)
  · refine (amaxN_le m (amaxOf c (i 0)) b 7 (by omega)).mpr fun k _ x => ?_
    have e := rows_prod (amaxOf c (i 0)) h k (x 0) (x 1)
    have e' : x = ix2 (n0 := 128) (n1 := 2048) (x 0) (x 1) := eq_ix2 x
    rw [e']
    exact (congrArg mag e).trans_le (H _ _)

/-- One element of a device's result: the quantiser's value of its element of the product, under the product's largest
    magnitude `g`. -/
theorem result_apply (h : Holds m X W) {g : EReal} (hg : ∀ b, g ≤ b ↔ ∀ r n, mag (prod X W r n) ≤ b) (k : Fin 8) (a : Fin 128) (n : Fin 2048) :
    outAt m c (rowAt k (ix2 a n)) = quantR g (prod X W (rowOf c k a) n) := by
  have e : k0_pay51 (F := Ideal) (amaxC m c) = g := eq_of_forall_ge_iff fun b => (amax_le c h b).trans (hg b).symm
  rw [← rowsRd_apply k (outAt m c), rows_result, pay54_apply, e, rows_prod c h]
  exact quant_eq ((hg g).mp (le_refl _) _ _)

end Cert.Mm

end
-- ==== Proof.RefValue.lean ====
/- The reference's result: each element of the product divided by the scale, clipped, cast and multiplied by the scale,
   the scale being the product's largest magnitude over 448. -/
module

public import proofs.«01_k».proof.Proof.Quant
public import proofs.«01_k».proof.Proof.Dot
public import proofs.«01_k».proof.Proof.Gen.ReferenceIdeal.Value
public import Idealize.ShloMosaic.Lib.StackMember

@[expose] public section

noncomputable section

namespace Cert.MmRef

open Idealize.ShloMosaic Idealize.ShloMosaic.TcCoe Idealize.ShloMosaic.ValueIdx Idealize.SL.Sem Cert.ReferenceIdeal Cert.ReferenceIdeal.Gen
open Cert.Mm (mag prod quantR)

variable (m : (ℓ : Loc nD τ sig) → Buf (Elt Ideal) ℓ) (c : Dev nD)

/-- The reference's `x` and `w`. -/
def rx : FVec Ideal S4096x4096 .f32 := m ((c : Thread nD τ).loc main_arg0)
def rwt : FVec Ideal S4096x2048 .f32 := m ((c : Thread nD τ).loc main_arg1)

/-- The product and its largest magnitude, as the reference computes them. -/
def dot : FVec Ideal S4096x2048 .f32 := Host.dotGeneral dot_S4096x4096_S4096x2048_S4096x2048_1_0_0_1_n_n none (rx m c) (rwt m c)
def top : FVec Ideal S_ .f32 := Host.reduce FloatOps.maximumf (Host.absf (dot m c)) (constant S_ .f32 0xFF800000#32) reducesTo_S4096x2048_S_d0_1 h_S_

theorem V_dot : V m c main_v0 = dot m c := by
  show StableHlo.after hostOps0 _ (Proc.devRef .tc main_v0) = _
  after_results
  rfl

theorem V_scale : V m c main_v4 = shapeCast S1x1 (Host.divf (top m c) (constant S_ .f32 0x43E00000#32)) shapeCasts_S_S1x1 := by
  show StableHlo.after hostOps0 _ (Proc.devRef .tc main_v4) = _
  after_results
  rfl

theorem dot_apply (r : Fin 4096) (n : Fin 2048) : dot m c (ix2 r n) = prod (rx m c) (rwt m c) r n :=
  StackMember.dotGeneral_plain_apply (m := 4096) (k := 4096) (n := 2048) none (rx m c) (rwt m c) r n

theorem top_le (j : S_.Idx) (b : EReal) : top m c j ≤ b ↔ ∀ r n, mag (prod (rx m c) (rwt m c) r n) ≤ b := by
  refine (Cert.Mm.reduce_le _ _ (fun a => a.elim0) _ j b).trans ⟨fun H r n => ?_, fun H i => ?_⟩
  · rw [← dot_apply]
    exact H (ix2 r n)
  · have e : dot m c i = prod (rx m c) (rwt m c) (i 0) (i 1) :=
      (congrArg (dot m c) (eq_ix2 (n0 := 4096) (n1 := 2048) i)).trans (dot_apply m c (i 0) (i 1))
    exact (congrArg mag e).trans_le (H (i 0) (i 1))

/-! ## The blocks are the whole arrays -/

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)

theorem at0 (t : Fin cfg0.N) (j : S4096x2048.Idx) : ((cfg0.win 0).blk t).view.emb j = j := by
  obtain ⟨e0, e1⟩ := index0 t
  refine funext fun a => Fin.ext ?_
  match a with
  | ⟨0, _⟩ => show win0_0.index t (0 : Fin 2) * 4096 + 1 * (j 0).val = (j 0).val; omega
  | ⟨1, _⟩ => show win0_0.index t (1 : Fin 2) * 2048 + 1 * (j 1).val = (j 1).val; omega

theorem at1 (t : Fin cfg0.N) (j : S1x1.Idx) : ((cfg0.win 1).blk t).view.emb j = j := by
  obtain ⟨e0, e1⟩ := index1 t
  refine funext fun a => Fin.ext ?_
  match a with
  | ⟨0, _⟩ => show win0_1.index t (0 : Fin 2) * 1 + 1 * (j 0).val = (j 0).val; omega
  | ⟨1, _⟩ => show win0_1.index t (1 : Fin 2) * 1 + 1 * (j 1).val = (j 1).val; omega

theorem at2 (t : Fin cfg0.N) (j : S4096x2048.Idx) : ((cfg0.win 2).blk t).view.emb j = j := by
  obtain ⟨e0, e1⟩ := index2 t
  refine funext fun a => Fin.ext ?_
  match a with
  | ⟨0, _⟩ => show win0_2.index t (0 : Fin 2) * 4096 + 1 * (j 0).val = (j 0).val; omega
  | ⟨1, _⟩ => show win0_2.index t (1 : Fin 2) * 2048 + 1 * (j 1).val = (j 1).val; omega

theorem block0 (t : Fin cfg0.N) (j : S4096x2048.Idx) : iblk m c 0 t j = dot m c j := by
  rw [← V_dot]
  exact congrArg (V m c main_v0) (at0 t j)

theorem block1 (t : Fin cfg0.N) (j : S1x1.Idx) : ∃ i, iblk m c 1 t j = Ideal.div (top m c i) (448 : ℝ) := by
  have h : iblk m c 1 t j = V m c main_v4 j := congrArg (V m c main_v4) (at1 t j)
  rw [h, V_scale, ← Cert.Mm.ofBits_448]
  exact ⟨_, rfl⟩

/-! ## The result -/

/-- The reference's result array. -/
def res : FVec Ideal S4096x2048 .f32 := (dats m 0 c).arrAt 2 cfg0.N

theorem out_apply (x0 : FVec Ideal S4096x2048 .f32) (x1 : FVec Ideal S1x1 .f32) (y : S4096x2048.Idx) :
    ∃ j : S1x1.Idx, out0_2 (F := Ideal) x0 x1 y = min ((448 : ℝ) : EReal) (max ((-448 : ℝ) : EReal) (Ideal.div (x0 y) (x1 j))) * (x1 j : EReal) := by
  refine ⟨Value.ix2_1 y, ?_⟩
  rw [out0_2, Value.canon2_eq]
  have h0 : View.ld (Val := Elt Ideal) (e' := .f32) x0 r0_0 = x0 := View.ld_unit_zero (Val := Elt Ideal) (e := .f32) (S := S4096x2048) (show (![0, 0] : Fin 2 → ℕ) = fun _ => 0 by decide) inb_S4096x2048_S4096x2048_0_0 x0
  have h1 : View.ld (Val := Elt Ideal) (e' := .f32) x1 r0_1 = x1 := View.ld_unit_zero (Val := Elt Ideal) (e := .f32) (S := S1x1) (show (![0, 0] : Fin 2 → ℕ) = fun _ => 0 by decide) inb_S1x1_S1x1_0_0 x1
  rw [h0, h1, ← Cert.Mm.ofBits_448, ← Cert.Mm.ofBits_neg448]
  have hy : Value.ix2_0 y = y := funext fun a => by match a with | ⟨0, _⟩ => rfl | ⟨1, _⟩ => rfl
  nth_rw 2 [← hy]
  rfl

/-- One element of it. -/
theorem res_apply {g : EReal} (hg : ∀ b, g ≤ b ↔ ∀ r n, mag (prod (rx m c) (rwt m c) r n) ≤ b) (r : Fin 4096) (n : Fin 2048) :
    res m c (ix2 r n) = quantR g (prod (rx m c) (rwt m c) r n) := by
  have h := congrFun ((Value.blocks2 m c t0_0 (flush0_2 t0_0)).trans (Value.flushed2 m c t0_0)) (ix2 r n)
  have h' : res m c (ix2 r n) = out0_2 (iblk m c 0 t0_0) (iblk m c 1 t0_0) (ix2 r n) :=
    (congrArg (res m c) (at2 t0_0 (ix2 r n)).symm).trans h
  obtain ⟨j, hj⟩ := out_apply (iblk m c 0 t0_0) (iblk m c 1 t0_0) (ix2 r n)
  obtain ⟨i, hi⟩ := block1 m c t0_0 j
  have e : top m c i = g := eq_of_forall_ge_iff fun b => (top_le m c i b).trans (hg b).symm
  rw [h', hj, hi, block0, e, dot_apply]
  rfl

end Cert.MmRef

end
-- ==== Proof.Algebraic.lean ====
/- The value claim: on the four devices together the kernel leaves, block by block of rows, the array the reference
   leaves on its one device. -/
module

public import proofs.«01_k».proof.Defs
public import proofs.«01_k».proof.Proof.Run
public import proofs.«01_k».proof.Proof.Amax
public import proofs.«01_k».proof.Proof.RefValue

@[expose] public section

noncomputable section

namespace Cert.Mm

open Idealize.ShloMosaic Idealize.ShloMosaic.TcCoe Idealize.ShloMosaic.ValueIdx Idealize.SL.Sem Cert.KernelIdeal Cert.KernelIdeal.Gen

/-! ## The result's array -/

section
variable {F : FTy → Type} [FloatOps F] (m : (ℓ : Loc nD τ sig) → Buf (Elt F) ℓ) (c : Dev nD)

theorem out_index : ∀ t : Fin cfg0.N, win0_0.index t (0 : Fin 2) = 0 ∧ win0_0.index t (1 : Fin 2) = 0 := (by decide +kernel : ∀ t : Fin grid0.N, _)

theorem out_at (t : Fin cfg0.N) (j : S1024x2048.Idx) : ((cfg0.win 0).blk t).view.emb j = j := by
  obtain ⟨e0, e1⟩ := out_index t
  refine funext fun a => Fin.ext ?_
  match a with
  | ⟨0, _⟩ => show win0_0.index t (0 : Fin 2) * 1024 + 1 * (j 0).val = (j 0).val; omega
  | ⟨1, _⟩ => show win0_0.index t (1 : Fin 2) * 2048 + 1 * (j 1).val = (j 1).val; omega

theorem out_disjoint : ∀ t t' : Fin cfg0.N, (cfg0.win 0).flush t = true → (cfg0.win 0).flush t' = true → t ≠ t' →
    Disjoint ((cfg0.win 0).blk t).view.set ((cfg0.win 0).blk t').view.set :=
  fun t t' _ _ hne => absurd ((fin_N0 t).trans (fin_N0 t').symm) hne

/-- The array ends with what the body left in the buffer. -/
theorem final_apply (j : S1024x2048.Idx) : (final m c : OutC F) j = outAt m c j := by
  have h := congrFun ((dats m 0 c).read_blk_arrAt_eq_flushed 0 out_disjoint cfg0.N t0_0 t0_0.isLt (flush0_0 t0_0)) j
  have h1 : (final m c : OutC F) j = ((cfg0.win 0).blk t0_0).view.read (Elt F) ((dats m 0 c).arrAt 0 cfg0.N) j :=
    (congrArg (final m c : OutC F) (out_at t0_0 j).symm)
  refine h1.trans (h.trans ?_)
  unfold Pipeline.Dat.flushed
  rfl

end

/-! ## The claim -/

/-- Place `x` of chunk `k` of block `c` of an array of 4096 rows is row `rowOf c k` of it. -/
theorem block_rowAt (v : FVec Ideal ⟨2, ![4096, 2048]⟩ .f32) (c : Dev nD) (k : Fin 8) (a : Fin 128) (n : Fin 2048) :
    (Layout.block ⟨2, ![1024, 2048]⟩ ⟨2, ![4096, 2048]⟩ 0 4 c v : S1024x2048.Idx → EReal) (rowAt k (ix2 a n)) = v (ix2 (rowOf c k a) n) := by
  rw [Layout.block_apply]
  refine congrArg v (funext fun b => Fin.ext ?_)
  match b with
  | ⟨0, _⟩ => show c.val * 1024 + (128 * k.val + a.val) = 1024 * c.val + (128 * k.val + a.val); omega
  | ⟨1, _⟩ => rfl

variable {m : (ℓ : Loc nD τ sig) → Buf (Elt Ideal) ℓ}
  {m' : (ℓ : Loc Cert.ReferenceIdeal.nD Cert.ReferenceIdeal.τ Cert.ReferenceIdeal.sig) → Buf (Elt Ideal) ℓ}

/-- Each device's result is its block of rows of the reference's. -/
theorem final_block (h : Holds m (Cert.MmRef.rx m' 0) (Cert.MmRef.rwt m' 0)) (c : Dev nD) :
    final m c = Layout.block ⟨2, ![1024, 2048]⟩ ⟨2, ![4096, 2048]⟩ 0 4 c (Cert.MmRef.res m' 0) := by
  refine funext fun i : S1024x2048.Idx => ?_
  obtain ⟨k, x, rfl⟩ := exists_rowAt i
  have hx : x = ix2 (n0 := 128) (n1 := 2048) (x 0) (x 1) := eq_ix2 x
  have hg := Cert.MmRef.top_le m' 0 (fun a => a.elim0)
  rw [hx]
  refine (final_apply m c _).trans ((result_apply c h hg k (x 0) (x 1)).trans ?_)
  exact ((block_rowAt (Cert.MmRef.res m' 0) c k (x 0) (x 1)).trans (Cert.MmRef.res_apply m' 0 hg (rowOf c k (x 0)) (x 1))).symm

/-- Both programs run, and every device of the kernel ends with its block of rows of the reference's result. -/
theorem algebraic : Cert.algebraic_KernelIdeal_ReferenceIdeal := fun m g m' g' _ hm => by
  have h : Holds m (Cert.MmRef.rx m' 0) (Cert.MmRef.rwt m' 0) := ⟨fun c => (hm c).1, fun c => (hm c).2⟩
  refine ⟨Cert.MmRef.res m' 0, ?_, ?_⟩
  · exact (θ_run defs _ _).mono (fun r hr c => ⟨((hr.1 c).1).trans (final_block h c), (hr.1 c).2⟩) (run_main m g)
  · exact (θ_run Cert.ReferenceIdeal.defs _ _).mono (fun r hr => hr 0) (Cert.ReferenceIdeal.Value.run_blocks m' g')

end Cert.Mm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts,
  Cert.Mm.frame_kernel, Cert.Mm.frame_kernelIdeal, Cert.Mm.frame_reference, Cert.Mm.preserves, Cert.Mm.algebraic⟩

end Cert.Proof

end
